-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S8x512 : Shape := ⟨2, ![8, 512]⟩
abbrev S8x128x512 : Shape := ⟨3, ![8, 128, 512]⟩
abbrev S8x128x10000 : Shape := ⟨3, ![8, 128, 10000]⟩
abbrev S8x512x512 : Shape := ⟨3, ![8, 512, 512]⟩
abbrev S8x8x128x512 : Shape := ⟨4, ![8, 8, 128, 512]⟩
abbrev S1536x1 : Shape := ⟨2, ![1536, 1]⟩
abbrev S1 : Shape := ⟨1, ![1]⟩
abbrev S_ : Shape := ⟨0, ![]⟩

class Facts : Prop where
  bcast_S_S8x512 : S_.BroadcastsInDim S8x512 (![] : Fin 0 → Fin S8x512.rank)
  bcast_S_S8x512x512 : S_.BroadcastsInDim S8x512x512 (![] : Fin 0 → Fin S8x512x512.rank)
  bcast_S_S8x8x128x512 : S_.BroadcastsInDim S8x8x128x512 (![] : Fin 0 → Fin S8x8x128x512.rank)

variable [Facts]

def fn {F : FTy → Type} [FloatOps F] (main_arg0 : IVec S8x512 32) (main_arg1 : FVec F S8x128x512 .f32) (main_arg2 : FVec F S8x128x10000 .f32) (main_arg3 : FVec F S8x512x512 .f32) (main_arg4 : FVec F S8x128x512 .f32) (main_arg5 : FVec F S8x8x128x512 .f32) (main_arg6 : FVec F S1536x1 .f32) (main_arg7 : FVec F S1 .f32) (main_arg8 : FVec F S_ .f32) (main_arg9 : FVec F S_ .f32) : IVec S8x512 1 × IVec S8x512x512 1 × IVec S8x8x128x512 1 × IVec S_ 1 × IVec S_ 1 :=
  let main_c : IVec S_ 32 := constantI S_ 32 0#32
  let main_v0 : IVec S8x512 32 := broadcastInDim S8x512 ![] bcast_S_S8x512 main_c
  let main_v1 : IVec S8x512 1 := cmpi .sge main_arg0 main_v0
  let main_c_0 : IVec S_ 32 := constantI S_ 32 10000#32
  let main_v2 : IVec S8x512 32 := broadcastInDim S8x512 ![] bcast_S_S8x512 main_c_0
  let main_v3 : IVec S8x512 1 := cmpi .slt main_arg0 main_v2
  let main_v4 : IVec S8x512 1 := andi main_v1 main_v3
  let main_v5 : FVec F S8x512x512 .f32 := Host.absf main_arg3
  let main_cst : FVec F S_ .f32 := constant S_ .f32 0x7F800000#32
  let main_v6 : FVec F S8x512x512 .f32 := broadcastInDim S8x512x512 ![] bcast_S_S8x512x512 main_cst
  let main_v7 : IVec S8x512x512 1 := cmpf .olt main_v5 main_v6
  let main_v8 : FVec F S8x8x128x512 .f32 := Host.absf main_arg5
  let main_cst_1 : FVec F S_ .f32 := constant S_ .f32 0x7F800000#32
  let main_v9 : FVec F S8x8x128x512 .f32 := broadcastInDim S8x8x128x512 ![] bcast_S_S8x8x128x512 main_cst_1
  let main_v10 : IVec S8x8x128x512 1 := cmpf .olt main_v8 main_v9
  let main_v11 : FVec F S_ .f32 := Host.absf main_arg8
  let main_cst_2 : FVec F S_ .f32 := constant S_ .f32 0x7F800000#32
  let main_v12 : IVec S_ 1 := cmpf .olt main_v11 main_cst_2
  let main_v13 : FVec F S_ .f32 := Host.absf main_arg9
  let main_cst_3 : FVec F S_ .f32 := constant S_ .f32 0x7F800000#32
  let main_v14 : IVec S_ 1 := cmpf .olt main_v13 main_cst_3
  (main_v4, main_v7, main_v10, main_v12, main_v14)
-- ==== Kernel.lean ====
abbrev S8x512 : Shape := ⟨2, ![8, 512]⟩
abbrev S8x128x512 : Shape := ⟨3, ![8, 128, 512]⟩
abbrev S8x128x10000 : Shape := ⟨3, ![8, 128, 10000]⟩
abbrev S8x512x512 : Shape := ⟨3, ![8, 512, 512]⟩
abbrev S8x8x128x512 : Shape := ⟨4, ![8, 8, 128, 512]⟩
abbrev S1536x1 : Shape := ⟨2, ![1536, 1]⟩
abbrev S1 : Shape := ⟨1, ![1]⟩
abbrev S_ : Shape := ⟨0, ![]⟩
abbrev S8x512x1 : Shape := ⟨3, ![8, 512, 1]⟩
abbrev S8x512x8 : Shape := ⟨3, ![8, 512, 8]⟩
abbrev S8x1x512 : Shape := ⟨3, ![8, 1, 512]⟩
abbrev S8x10000x128 : Shape := ⟨3, ![8, 10000, 128]⟩
abbrev S1x1536 : Shape := ⟨2, ![1, 1536]⟩
abbrev S3 : Shape := ⟨1, ![3]⟩
abbrev S8x1x128 : Shape := ⟨3, ![8, 1, 128]⟩
abbrev S1x512x8 : Shape := ⟨3, ![1, 512, 8]⟩
abbrev S1x1x512 : Shape := ⟨3, ![1, 1, 512]⟩
abbrev S1x128x512 : Shape := ⟨3, ![1, 128, 512]⟩
abbrev S1x10000x128 : Shape := ⟨3, ![1, 10000, 128]⟩
abbrev S1x512x512 : Shape := ⟨3, ![1, 512, 512]⟩
abbrev S1x8x128x512 : Shape := ⟨4, ![1, 8, 128, 512]⟩
abbrev S1x1x128 : Shape := ⟨3, ![1, 1, 128]⟩
abbrev S128x512 : Shape := ⟨2, ![128, 512]⟩
abbrev S512x512 : Shape := ⟨2, ![512, 512]⟩
abbrev S512x128 : Shape := ⟨2, ![512, 128]⟩
abbrev S1x512 : Shape := ⟨2, ![1, 512]⟩
abbrev S1x128 : Shape := ⟨2, ![1, 128]⟩
abbrev S512x8 : Shape := ⟨2, ![512, 8]⟩
abbrev S512x1 : Shape := ⟨2, ![512, 1]⟩
abbrev S512 : Shape := ⟨1, ![512]⟩
abbrev S1x512x1 : Shape := ⟨3, ![1, 512, 1]⟩
abbrev S1x1x1 : Shape := ⟨3, ![1, 1, 1]⟩
abbrev S128 : Shape := ⟨1, ![128]⟩
abbrev S2000x512 : Shape := ⟨2, ![2000, 512]⟩
abbrev S2000x128 : Shape := ⟨2, ![2000, 128]⟩
abbrev S1x2000x128 : Shape := ⟨3, ![1, 2000, 128]⟩
abbrev S8x128 : Shape := ⟨2, ![8, 128]⟩

abbrev nBuf : Space → Nat
  | .hbm => 24
  | .vmem => 21
  | .smem => 1
  | _ => 0

abbrev bufTy : (tb : Table) → Fin (tcTables nBuf tb) → BufTy
  | .hbm, ⟨0, _⟩ => ⟨S8x512, .i32⟩
  | .hbm, ⟨1, _⟩ => ⟨S8x128x512, .f32⟩
  | .hbm, ⟨2, _⟩ => ⟨S8x128x10000, .f32⟩
  | .hbm, ⟨3, _⟩ => ⟨S8x512x512, .f32⟩
  | .hbm, ⟨4, _⟩ => ⟨S8x128x512, .f32⟩
  | .hbm, ⟨5, _⟩ => ⟨S8x8x128x512, .f32⟩
  | .hbm, ⟨6, _⟩ => ⟨S1536x1, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S8x512x1, .i32⟩
  | .hbm, ⟨11, _⟩ => ⟨S8x512x8, .i32⟩
  | .hbm, ⟨12, _⟩ => ⟨S8x1x512, .i32⟩
  | .hbm, ⟨13, _⟩ => ⟨S8x10000x128, .f32⟩
  | .hbm, ⟨14, _⟩ => ⟨S1x1536, .f32⟩
  | .hbm, ⟨15, _⟩ => ⟨S1, .f32⟩
  | .hbm, ⟨16, _⟩ => ⟨S1, .f32⟩
  | .hbm, ⟨17, _⟩ => ⟨S3, .f32⟩
  | .hbm, ⟨18, _⟩ => ⟨S8x10000x128, .f32⟩
  | .hbm, ⟨19, _⟩ => ⟨S8x10000x128, .f32⟩
  | .hbm, ⟨20, _⟩ => ⟨S8x1x128, .f32⟩
  | .hbm, ⟨21, _⟩ => ⟨S8x128x10000, .f32⟩
  | .hbm, ⟨22, _⟩ => ⟨S8x128x10000, .f32⟩
  | .hbm, ⟨23, _⟩ => ⟨S8x128, .f32⟩
  | .local _ .vmem, ⟨0, _⟩ => ⟨S1x512x8, .i32⟩
  | .local _ .vmem, ⟨1, _⟩ => ⟨S1x512x8, .i32⟩
  | .local _ .vmem, ⟨2, _⟩ => ⟨S1x1x512, .i32⟩
  | .local _ .vmem, ⟨3, _⟩ => ⟨S1x1x512, .i32⟩
  | .local _ .vmem, ⟨4, _⟩ => ⟨S1x128x512, .f32⟩
  | .local _ .vmem, ⟨5, _⟩ => ⟨S1x128x512, .f32⟩
  | .local _ .vmem, ⟨6, _⟩ => ⟨S1x10000x128, .f32⟩
  | .local _ .vmem, ⟨7, _⟩ => ⟨S1x10000x128, .f32⟩
  | .local _ .vmem, ⟨8, _⟩ => ⟨S1x512x512, .f32⟩
  | .local _ .vmem, ⟨9, _⟩ => ⟨S1x512x512, .f32⟩
  | .local _ .vmem, ⟨10, _⟩ => ⟨S1x128x512, .f32⟩
  | .local _ .vmem, ⟨11, _⟩ => ⟨S1x128x512, .f32⟩
  | .local _ .vmem, ⟨12, _⟩ => ⟨S1x8x128x512, .f32⟩
  | .local _ .vmem, ⟨13, _⟩ => ⟨S1x8x128x512, .f32⟩
  | .local _ .vmem, ⟨14, _⟩ => ⟨S1x1536, .f32⟩
  | .local _ .vmem, ⟨15, _⟩ => ⟨S1x10000x128, .f32⟩
  | .local _ .vmem, ⟨16, _⟩ => ⟨S1x10000x128, .f32⟩
  | .local _ .vmem, ⟨17, _⟩ => ⟨S1x10000x128, .f32⟩
  | .local _ .vmem, ⟨18, _⟩ => ⟨S1x10000x128, .f32⟩
  | .local _ .vmem, ⟨19, _⟩ => ⟨S1x1x128, .f32⟩
  | .local _ .vmem, ⟨20, _⟩ => ⟨S1x1x128, .f32⟩
  | .local _ .smem, ⟨0, _⟩ => ⟨S3, .f32⟩
  | _, _ => ⟨S8x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x10000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x10000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x512 : Shape := ⟨2, ![8, 512]⟩
abbrev S8x128x512 : Shape := ⟨3, ![8, 128, 512]⟩
abbrev S8x128x10000 : Shape := ⟨3, ![8, 128, 10000]⟩
abbrev S8x512x512 : Shape := ⟨3, ![8, 512, 512]⟩
abbrev S8x8x128x512 : Shape := ⟨4, ![8, 8, 128, 512]⟩
abbrev S1536x1 : Shape := ⟨2, ![1536, 1]⟩
abbrev S1 : Shape := ⟨1, ![1]⟩
abbrev S_ : Shape := ⟨0, ![]⟩
abbrev S8x128x1536 : Shape := ⟨3, ![8, 128, 1536]⟩
abbrev S8x128x1 : Shape := ⟨3, ![8, 128, 1]⟩
abbrev S1x1x1 : Shape := ⟨3, ![1, 1, 1]⟩
abbrev S8x512x1 : Shape := ⟨3, ![8, 512, 1]⟩
abbrev S1x1x10000 : Shape := ⟨3, ![1, 1, 10000]⟩
abbrev S8x512x10000 : Shape := ⟨3, ![8, 512, 10000]⟩
abbrev S8x128 : Shape := ⟨2, ![8, 128]⟩

abbrev nBuf : Space → Nat
  | .hbm => 64
  | .vmem => 0
  | .smem => 0
  | _ => 0

abbrev bufTy : (tb : Table) → Fin (tcTables nBuf tb) → BufTy
  | .hbm, ⟨0, _⟩ => ⟨S8x512, .i32⟩
  | .hbm, ⟨1, _⟩ => ⟨S8x128x512, .f32⟩
  | .hbm, ⟨2, _⟩ => ⟨S8x128x10000, .f32⟩
  | .hbm, ⟨3, _⟩ => ⟨S8x512x512, .f32⟩
  | .hbm, ⟨4, _⟩ => ⟨S8x128x512, .f32⟩
  | .hbm, ⟨5, _⟩ => ⟨S8x8x128x512, .f32⟩
  | .hbm, ⟨6, _⟩ => ⟨S1536x1, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x128x512, .f32⟩
  | .hbm, ⟨12, _⟩ => ⟨S_, .f32⟩
  | .hbm, ⟨13, _⟩ => ⟨S8x128x512, .f32⟩
  | .hbm, ⟨14, _⟩ => ⟨S8x128x512, .f32⟩
  | .hbm, ⟨15, _⟩ => ⟨S8x128x512, .f32⟩
  | .hbm, ⟨16, _⟩ => ⟨S8x128x1536, .f32⟩
  | .hbm, ⟨17, _⟩ => ⟨S8x128x1, .f32⟩
  | .hbm, ⟨18, _⟩ => ⟨S1x1x1, .f32⟩
  | .hbm, ⟨19, _⟩ => ⟨S8x128x1, .f32⟩
  | .hbm, ⟨20, _⟩ => ⟨S8x128x1, .f32⟩
  | .hbm, ⟨21, _⟩ => ⟨S8x128x1, .f32⟩
  | .hbm, ⟨22, _⟩ => ⟨S8x128x1, .f32⟩
  | .hbm, ⟨23, _⟩ => ⟨S_, .f32⟩
  | .hbm, ⟨24, _⟩ => ⟨S8x128x1, .f32⟩
  | .hbm, ⟨25, _⟩ => ⟨S8x128x1, .f32⟩
  | .hbm, ⟨26, _⟩ => ⟨S_, .f32⟩
  | .hbm, ⟨27, _⟩ => ⟨S8x128x1, .f32⟩
  | .hbm, ⟨28, _⟩ => ⟨S8x128x1, .f32⟩
  | .hbm, ⟨29, _⟩ => ⟨S8x512x1, .i32⟩
  | .hbm, ⟨30, _⟩ => ⟨S1x1x10000, .i32⟩
  | .hbm, ⟨31, _⟩ => ⟨S8x512x10000, .i32⟩
  | .hbm, ⟨32, _⟩ => ⟨S8x512x10000, .i32⟩
  | .hbm, ⟨33, _⟩ => ⟨S8x512x10000, .i1⟩
  | .hbm, ⟨34, _⟩ => ⟨S8x512x10000, .f32⟩
  | .hbm, ⟨35, _⟩ => ⟨S8x128x10000, .f32⟩
  | .hbm, ⟨36, _⟩ => ⟨S_, .f32⟩
  | .hbm, ⟨37, _⟩ => ⟨S8x128, .f32⟩
  | .hbm, ⟨38, _⟩ => ⟨S_, .f32⟩
  | .hbm, ⟨39, _⟩ => ⟨S8x128, .f32⟩
  | .hbm, ⟨40, _⟩ => ⟨S8x128, .f32⟩
  | .hbm, ⟨41, _⟩ => ⟨S8x128x1, .f32⟩
  | .hbm, ⟨42, _⟩ => ⟨S8x128x10000, .f32⟩
  | .hbm, ⟨43, _⟩ => ⟨S8x128x10000, .f32⟩
  | .hbm, ⟨44, _⟩ => ⟨S8x128x10000, .f32⟩
  | .hbm, ⟨45, _⟩ => ⟨S_, .f32⟩
  | .hbm, ⟨46, _⟩ => ⟨S8x128, .f32⟩
  | .hbm, ⟨47, _⟩ => ⟨S8x128x1, .f32⟩
  | .hbm, ⟨48, _⟩ => ⟨S8x128x1, .f32⟩
  | .hbm, ⟨49, _⟩ => ⟨S8x128x10000, .f32⟩
  | .hbm, ⟨50, _⟩ => ⟨S8x128x10000, .f32⟩
  | .hbm, ⟨51, _⟩ => ⟨S8x128x10000, .f32⟩
  | .hbm, ⟨52, _⟩ => ⟨S8x128x10000, .f32⟩
  | .hbm, ⟨53, _⟩ => ⟨S8x128x10000, .f32⟩
  | .hbm, ⟨54, _⟩ => ⟨S8x128x10000, .f32⟩
  | .hbm, ⟨55, _⟩ => ⟨S8x128x10000, .f32⟩
  | .hbm, ⟨56, _⟩ => ⟨S8x128x10000, .f32⟩
  | .hbm, ⟨57, _⟩ => ⟨S_, .f32⟩
  | .hbm, ⟨58, _⟩ => ⟨S8x128x1, .f32⟩
  | .hbm, ⟨59, _⟩ => ⟨S8x128x1, .f32⟩
  | .hbm, ⟨60, _⟩ => ⟨S8x128x10000, .f32⟩
  | .hbm, ⟨61, _⟩ => ⟨S8x128x10000, .f32⟩
  | .hbm, ⟨62, _⟩ => ⟨S8x128x10000, .f32⟩
  | .hbm, ⟨63, _⟩ => ⟨S8x128, .f32⟩
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v15 : Ref sig .tc := ⟨.hbm, 34, rfl⟩
abbrev main_v16 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩

abbrev nD : Nat := 1
abbrev τ : Topo := Topo.v7x

variable {F : FTy → Type} [FloatOps F]
-- ==== Proof.Reads.lean ====
module

public import proofs.«01_k».proof.Proof.Gen.KernelIdeal.Frame
public import Idealize.ShloMosaic.Lib.Pipeline.ValueKit
public import Idealize.ShloMosaic.Lib.StableHlo.ReadAt

/-! The input blocks of one grid point, element by element, as the arguments' elements. -/

@[expose] public section

set_option maxRecDepth 16384

noncomputable section

namespace Cert.KernelIdeal.Reads

open Idealize.ShloMosaic Idealize.ShloMosaic.TcCoe Idealize.SL.Sem
open Cert.KernelIdeal Cert.KernelIdeal.Gen

variable (m : (ℓ : Loc nD τ sig) → Buf (Elt Ideal) ℓ) (c : Dev nD)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0, 0] ∧ win0_7.index t = ![0, 0] ∧ win0_8.index t = ![0]
    ∧ win0_9.index t = ![t.val, 0, 0] ∧ win0_10.index t = ![t.val, 0, 0] ∧ win0_11.index t = ![t.val, 0, 0] :=
  (by decide +kernel : ∀ t : Fin grid0.N, _)

/-- The batch element of a grid point. -/
def batch (t : Fin cfg0.N) : Fin 8 := ⟨t.val, t.isLt⟩

/-! ## What the host lines before the launch leave -/

theorem entry1 (b : Fin 8) (i : Fin 512) (k : Fin 8) :
    V m c main_v1 (ix3 b i k) = m (((c : Dev nD).tc : Thread nD τ).loc main_arg0) (ix2 b i) := by
  unfold V
  after_reads_at

theorem entry2 (b : Fin 8) (i : Fin 512) :
    V m c main_v2 (ix3 b 0 i) = m (((c : Dev nD).tc : Thread nD τ).loc main_arg0) (ix2 b i) := by
  unfold V
  after_reads_at

theorem entry3 (b : Fin 8) (v : Fin 10000) (s : Fin 128) :
    V m c main_v3 (ix3 b v s) = m (((c : Dev nD).tc : Thread nD τ).loc main_arg2) (ix3 b s v) := by
  unfold V
  after_reads_at

theorem entry4 (x : Fin 1536) :
    V m c main_v4 (ix2 0 x) = m (((c : Dev nD).tc : Thread nD τ).loc main_arg6) (ix2 x 0) := by
  unfold V
  after_reads_at

theorem entry7_0 : V m c main_v7 (ix1 0) = m (((c : Dev nD).tc : Thread nD τ).loc main_arg7) (ix1 0) := by
  unfold V
  after_reads_at

theorem entry7_1 : V m c main_v7 (ix1 1) = m (((c : Dev nD).tc : Thread nD τ).loc main_arg8) ix0 := by
  unfold V
  after_reads_at
  after_reads_at

theorem entry7_2 : V m c main_v7 (ix1 2) = m (((c : Dev nD).tc : Thread nD τ).loc main_arg9) ix0 := by
  unfold V
  after_reads_at
  after_reads_at

/-! ## The blocks -/

theorem read0 (t : Fin cfg0.N) (i : Fin 512) :
    iblk m c 0 t (ix3 0 i 0) = m (((c : Dev nD).tc : Thread nD τ).loc main_arg0) (ix2 (batch t) i) := by
  rw [← entry1 m c (batch t) i 0]
  unfold batch
  blk_ext [iblk, idx t]

theorem read1 (t : Fin cfg0.N) (i : Fin 512) :
    iblk m c 1 t (ix3 0 0 i) = m (((c : Dev nD).tc : Thread nD τ).loc main_arg0) (ix2 (batch t) i) := by
  rw [← entry2 m c (batch t) i]
  unfold batch
  blk_ext [iblk, idx t]

theorem read2 (t : Fin cfg0.N) (s : Fin 128) (x : Fin 512) :
    iblk m c 2 t (ix3 0 s x) = m (((c : Dev nD).tc : Thread nD τ).loc main_arg1) (ix3 (batch t) s x) := by
  unfold batch
  blk_ext [iblk, V, idx t]

theorem read3 (t : Fin cfg0.N) (v : Fin 10000) (s : Fin 128) :
    iblk m c 3 t (ix3 0 v s) = m (((c : Dev nD).tc : Thread nD τ).loc main_arg2) (ix3 (batch t) s v) := by
  rw [← entry3 m c (batch t) v s]
  unfold batch
  blk_ext [iblk, idx t]

theorem read4 (t : Fin cfg0.N) (i x : Fin 512) :
    iblk m c 4 t (ix3 0 i x) = m (((c : Dev nD).tc : Thread nD τ).loc main_arg3) (ix3 (batch t) i x) := by
  unfold batch
  blk_ext [iblk, V, idx t]

theorem read5 (t : Fin cfg0.N) (s : Fin 128) (x : Fin 512) :
    iblk m c 5 t (ix3 0 s x) = m (((c : Dev nD).tc : Thread nD τ).loc main_arg4) (ix3 (batch t) s x) := by
  unfold batch
  blk_ext [iblk, V, idx t]

theorem read6 (t : Fin cfg0.N) (k : Fin 8) (s : Fin 128) (i : Fin 512) :
    iblk m c 6 t (ix4 0 k s i) = m (((c : Dev nD).tc : Thread nD τ).loc main_arg5) (ix4 (batch t) k s i) := by
  unfold batch
  blk_ext [iblk, V, idx t]

theorem read7 (t : Fin cfg0.N) (x : Fin 1536) :
    iblk m c 7 t (ix2 0 x) = m (((c : Dev nD).tc : Thread nD τ).loc main_arg6) (ix2 x 0) := by
  rw [← entry4 m c x]
  blk_ext [iblk, idx t]

theorem read8_0 (t : Fin cfg0.N) : iblk m c 8 t (ix1 0) = m (((c : Dev nD).tc : Thread nD τ).loc main_arg7) (ix1 0) := by
  rw [← entry7_0 m c]
  blk_ext [iblk, idx t]

theorem read8_1 (t : Fin cfg0.N) : iblk m c 8 t (ix1 1) = m (((c : Dev nD).tc : Thread nD τ).loc main_arg8) ix0 := by
  rw [← entry7_1 m c]
  blk_ext [iblk, idx t]

theorem read8_2 (t : Fin cfg0.N) : iblk m c 8 t (ix1 2) = m (((c : Dev nD).tc : Thread nD τ).loc main_arg9) ix0 := by
  rw [← entry7_2 m c]
  blk_ext [iblk, idx t]

/-! ## The parts of the weights, the chunks of the distribution and the scalars that the body loads -/

theorem weights (t : Fin cfg0.N) (o : ℕ) (inb) (x : Fin 512) (h : o + x.val < 1536) :
    View.ld (iblk m c 7 t) (Rect.unit (s := S1x1536) ![0, o] ![1, 512] inb) (ix2 0 x)
      = m (((c : Dev nD).tc : Thread nD τ).loc main_arg6) (ix2 ⟨o + x.val, h⟩ 0) :=
  (View.ld_unit_apply_of (iblk m c 7 t) ![0, o] ![1, 512] inb (ix2 0 x) (ix2 0 ⟨o + x.val, h⟩)
    (fun a => by fin_cases a <;> simp)).trans (read7 m c t ⟨o + x.val, h⟩)

theorem chunk (t : Fin cfg0.N) (o : ℕ) (inb) (r : Fin 2000) (s : Fin 128) (v : Fin 10000) (h : v.val = o + r.val) :
    View.ld (iblk m c 3 t) (Rect.unit (s := S1x10000x128) ![0, o, 0] ![1, 2000, 128] inb) (ix3 0 r s)
      = m (((c : Dev nD).tc : Thread nD τ).loc main_arg2) (ix3 (batch t) s v) :=
  (View.ld_unit_apply_of (iblk m c 3 t) ![0, o, 0] ![1, 2000, 128] inb (ix3 0 r s) (ix3 0 v s)
    (fun a => by fin_cases a <;> simp [h])).trans (read3 m c t v s)

theorem scalar (t : Fin cfg0.N) (o : Fin 3) (inb) (x : S1.Idx) :
    View.ld (iblk m c 8 t) (Rect.unit (s := S3) ![o.val] ![1] inb) x = iblk m c 8 t (ix1 o) :=
  View.ld_unit_apply_of (iblk m c 8 t) ![o.val] ![1] inb x (ix1 o) (fun a => by
    have h : (x 0).val < 1 := (x 0).isLt
    fin_cases a
    show o.val = o.val + (x 0).val
    omega)

end Cert.KernelIdeal.Reads
-- ==== Proof.Maths.lean ====
/- The real-number content of the claim, with no program in sight. A column of the pointer distribution is given by a
   word `tok i < V` and a weight `a i` per input position; `hits` scatters the weights over the vocabulary, and the
   log-sum-exp over the whole vocabulary is the one the kernel takes over the input positions alone: words that no
   position holds contribute `exp (0 - m)` each, and a word held by several positions is counted once because every
   position divides by how often its word occurs. -/
module

public import Idealize.ShloMosaic.Lib.IdealHost

@[expose] public section

noncomputable section

namespace Cert.Maths

open Idealize.ShloMosaic

/-! ## Extended reals that are real -/

theorem coe_sum {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem coe_ite (p : Prop) [Decidable p] (x y : ℝ) : (if p then (x : EReal) else (y : EReal)) = ((if p then x else y : ℝ) : EReal) := by
  split_ifs <;> rfl

theorem exp_coe (r : ℝ) : Ideal.exp (r : EReal) = (Real.exp r : EReal) := rfl

theorem log_coe {r : ℝ} (h : 0 < r) : Ideal.log (r : EReal) = (Real.log r : EReal) := by
  show (if r ≤ 0 then ⊥ else (Real.log r : EReal)) = _
  rw [if_neg (not_le.mpr h)]

theorem div_real (x : ℝ) {y : ℝ} (h : y ≠ 0) : Ideal.div (x : EReal) (y : EReal) = ((x / y : ℝ) : EReal) := by
  have h' : (y : EReal) ≠ 0 := by exact_mod_cast h
  unfold Ideal.div
  rw [if_neg h', ← EReal.coe_inv, ← EReal.coe_mul, div_eq_mul_inv]

/-- A greatest value of finitely many reals, at least one, taken from minus infinity, is real. -/
theorem fold_max_real {n : ℕ} [NeZero n] (f : Fin n → ℝ) :
    ∃ r : ℝ, Finset.univ.fold max (⊥ : EReal) (fun i => (f i : EReal)) = (r : EReal) := by
  have key : ∀ s : Finset (Fin n), s.fold max (⊥ : EReal) (fun i => (f i : EReal)) = ⊥ ∧ s = ∅
      ∨ ∃ r : ℝ, s.fold max (⊥ : EReal) (fun i => (f i : EReal)) = (r : EReal) := by
    intro s
    induction s using Finset.induction_on with
    | empty => exact .inl ⟨Finset.fold_empty, rfl⟩
    | insert i s hi ih =>
      refine .inr ?_
      rw [Finset.fold_insert hi]
      rcases ih with ⟨h, -⟩ | ⟨r, h⟩
      · exact ⟨f i, by rw [h, max_bot_right]⟩
      · exact ⟨max (f i) r, by rw [h]; exact (EReal.coe_strictMono.monotone.map_max).symm⟩
  rcases key Finset.univ with ⟨-, h⟩ | h
  · exact absurd h (Finset.univ_nonempty (α := Fin n)).ne_empty
  · exact h

/-! ## Words and multiplicities -/

section Words

variable {n V : ℕ} (tok : Fin n → Fin V) (a : Fin n → ℝ)

/-- The weight of word `v`: the sum of the weights of the positions that hold it. -/
def hits (v : Fin V) : ℝ := ∑ i, if v = tok i then a i else 0

/-- How many positions hold the word of position `i`. -/
def mult (i : Fin n) : ℝ := ∑ j, if tok i = tok j then 1 else 0

theorem mult_eq_card (i : Fin n) : mult tok i = ((Finset.univ.filter fun j => tok j = tok i).card : ℝ) := by
  unfold mult
  rw [Finset.sum_boole]
  congr 2
  exact Finset.filter_congr fun j _ => eq_comm

theorem mult_pos (i : Fin n) : 0 < mult tok i := by
  rw [mult_eq_card]
  exact_mod_cast Finset.card_pos.mpr ⟨i, by simp⟩

/-- Dividing by the multiplicity counts each word once. -/
theorem sum_div_mult (g : Fin V → ℝ) :
    ∑ i, g (tok i) * (1 / mult tok i) = ∑ v, if ∃ i, tok i = v then g v else 0 := by
  classical
  rw [← Finset.sum_fiberwise Finset.univ tok]
  refine Finset.sum_congr rfl fun v _ => ?_
  have hin : ∀ i ∈ Finset.univ.filter (fun i => tok i = v),
      g (tok i) * (1 / mult tok i) = g v * (1 / ((Finset.univ.filter fun j => tok j = v).card : ℝ)) := by
    intro i hi
    have hv : tok i = v := (Finset.mem_filter.mp hi).2
    rw [mult_eq_card, hv]
  rw [Finset.sum_congr rfl hin, Finset.sum_const, nsmul_eq_mul]
  split_ifs with h
  · obtain ⟨i, hi⟩ := h
    have hc : ((Finset.univ.filter fun j => tok j = v).card : ℝ) ≠ 0 := by
      have : 0 < (Finset.univ.filter fun j => tok j = v).card := Finset.card_pos.mpr ⟨i, by simp [hi]⟩
      exact_mod_cast this.ne'
    field_simp
  · have hc : (Finset.univ.filter fun j => tok j = v) = ∅ := by
      refine Finset.filter_eq_empty_iff.mpr fun j _ hj => h ⟨j, hj⟩
    simp [hc]

/-- A word that no position holds has weight zero. -/
theorem hits_of_absent {v : Fin V} (h : ¬ ∃ i, tok i = v) : hits tok a v = 0 :=
  Finset.sum_eq_zero fun i _ => if_neg fun hv => h ⟨i, hv.symm⟩

/-- The sum of exponentials over the vocabulary from the positions alone. -/
theorem sum_exp (m : ℝ) :
    ((V : ℝ) - ∑ i, 1 / mult tok i) * Real.exp (0 - m) + ∑ i, Real.exp (hits tok a (tok i) - m) * (1 / mult tok i)
      = ∑ v, Real.exp (hits tok a v - m) := by
  classical
  have h1 := sum_div_mult tok fun _ => (1 : ℝ)
  have h2 := sum_div_mult tok fun v => Real.exp (hits tok a v - m)
  simp only [one_mul] at h1
  have hV : (V : ℝ) = ∑ _v : Fin V, (1 : ℝ) := by simp
  rw [h1, h2, hV, ← Finset.sum_sub_distrib, Finset.sum_mul, ← Finset.sum_add_distrib]
  refine Finset.sum_congr rfl fun v _ => ?_
  split_ifs with h
  · rw [sub_self, zero_mul, zero_add]
  · rw [sub_zero, one_mul, add_zero, hits_of_absent tok a h]

/-- The log-sum-exp does not depend on the shift. -/
theorem shift_log (hV : 0 < V) (x : Fin V → ℝ) (m : ℝ) :
    m + Real.log (∑ v, Real.exp (x v - m)) = Real.log (∑ v, Real.exp (x v)) := by
  have : Nonempty (Fin V) := ⟨⟨0, hV⟩⟩
  have hpos : 0 < ∑ v, Real.exp (x v - m) := Finset.sum_pos (fun v _ => Real.exp_pos _) Finset.univ_nonempty
  have h := Real.log_mul (Real.exp_pos m).ne' hpos.ne'
  rw [Real.log_exp] at h
  rw [← h, Finset.mul_sum]
  congr 1
  refine Finset.sum_congr rfl fun v _ => ?_
  rw [← Real.exp_add]
  congr 1
  ring

/-- The scaled log-probability of word `v`. -/
def ptr (sw sb : ℝ) (v : Fin V) : ℝ := sw * (hits tok a v - Real.log (∑ u, Real.exp (hits tok a u))) + sb

/-- What the kernel computes for word `v`, at its own shift `m`. -/
theorem ptr_kernel (hV : 0 < V) (sw sb m : ℝ) (v : Fin V) :
    (sw : EReal) * (hits tok a v : EReal)
        + ((sb : EReal) - (sw : EReal) * ((m : EReal)
          + Ideal.log ((((V : ℝ) : EReal) - ((∑ i, 1 / mult tok i : ℝ) : EReal)) * Ideal.exp (0 - (m : EReal))
            + ∑ i, Ideal.exp ((hits tok a (tok i) : EReal) - (m : EReal)) * ((1 / mult tok i : ℝ) : EReal))))
      = (ptr tok a sw sb v : EReal) := by
  have : Nonempty (Fin V) := ⟨⟨0, hV⟩⟩
  have hpos : 0 < ∑ v, Real.exp (hits tok a v - m) := Finset.sum_pos (fun v _ => Real.exp_pos _) Finset.univ_nonempty
  have hz : (0 : EReal) - (m : EReal) = ((0 - m : ℝ) : EReal) := by rw [EReal.coe_sub, EReal.coe_zero]
  simp only [← EReal.coe_sub, hz, exp_coe, ← EReal.coe_mul, coe_sum, ← EReal.coe_add, sum_exp]
  rw [log_coe hpos]
  simp only [← EReal.coe_sub, ← EReal.coe_mul, ← EReal.coe_add]
  congr 1
  rw [shift_log hV]
  unfold ptr
  ring

/-- What the reference computes for word `v`, at its own shift `M`. -/
theorem ptr_reference (hV : 0 < V) (sw sb M : ℝ) (v : Fin V) :
    (sw : EReal) * (((hits tok a v : EReal) - (M : EReal)) - Ideal.log (∑ u, Ideal.exp ((hits tok a u : EReal) - (M : EReal))))
        + (sb : EReal)
      = (ptr tok a sw sb v : EReal) := by
  have : Nonempty (Fin V) := ⟨⟨0, hV⟩⟩
  have hpos : 0 < ∑ v, Real.exp (hits tok a v - M) := Finset.sum_pos (fun v _ => Real.exp_pos _) Finset.univ_nonempty
  simp only [← EReal.coe_sub, exp_coe, coe_sum]
  rw [log_coe hpos]
  simp only [← EReal.coe_sub, ← EReal.coe_mul, ← EReal.coe_add]
  congr 1
  unfold ptr
  have h := shift_log hV (hits tok a) M
  rw [← h]
  ring

end Words

/-! ## The gate -/

/-- The gate is a real number between zero and one, whatever its argument. -/
theorem logistic_real (z : EReal) : ∃ p : ℝ, 0 ≤ p ∧ p ≤ 1 ∧ Ideal.logistic z = (p : EReal) := by
  induction z with
  | bot =>
    refine ⟨0, le_rfl, zero_le_one, ?_⟩
    show Ideal.div 1 (1 + Ideal.exp (-(⊥ : EReal))) = _
    rw [EReal.neg_bot]
    show Ideal.div 1 (1 + ⊤) = _
    rw [EReal.add_top_of_ne_bot (by decide)]
    simp [Ideal.div]
  | top =>
    refine ⟨1, zero_le_one, le_rfl, ?_⟩
    show Ideal.div 1 (1 + Ideal.exp (-(⊤ : EReal))) = _
    rw [EReal.neg_top]
    show Ideal.div 1 (1 + 0) = _
    rw [add_zero]
    exact (div_real 1 one_ne_zero).trans (by norm_num)
  | coe r =>
    have hp : 0 < 1 + Real.exp (-r) := by positivity
    refine ⟨1 / (1 + Real.exp (-r)), by positivity, ?_, ?_⟩
    · rw [div_le_one hp]; linarith [Real.exp_pos (-r)]
    · show Ideal.div 1 (1 + Ideal.exp (-(r : EReal))) = _
      rw [← EReal.coe_neg, exp_coe, ← EReal.coe_one, ← EReal.coe_add, div_real _ hp.ne']

/-- The two spellings of the mixture agree for every generator value, infinite ones included. -/
theorem mix (p c : ℝ) (h0 : 0 ≤ p) (g : EReal) :
    (p : EReal) * (g - (c : EReal)) + (c : EReal) = (p : EReal) * g + (1 - (p : EReal)) * (c : EReal) := by
  have h1 : (1 : EReal) - (p : EReal) = ((1 - p : ℝ) : EReal) := by rw [EReal.coe_sub, EReal.coe_one]
  rw [h1]
  induction g with
  | coe r =>
    simp only [← EReal.coe_sub, ← EReal.coe_mul, ← EReal.coe_add]
    congr 1
    ring
  | bot =>
    rw [EReal.bot_sub]
    rcases h0.eq_or_lt with h | h
    · subst h; simp
    · rw [EReal.coe_mul_bot_of_pos h, EReal.bot_add, EReal.bot_add]
  | top =>
    rw [EReal.top_sub_coe]
    rcases h0.eq_or_lt with h | h
    · subst h; simp
    · rw [EReal.coe_mul_top_of_pos h, ← EReal.coe_mul, EReal.top_add_coe, EReal.top_add_coe]

end Cert.Maths
-- ==== Proof.Words.lean ====
module

public import Idealize.ShloMosaic.Lib.IdealHost
public import Idealize.ShloMosaic.Lib.WordCmp
public import Idealize.ShloMosaic.Lib.Pointwise
public import proofs.«01_k».proof.Proof.Maths

/-! The constants, the token words, and the finiteness tests of the two programs, as numbers. -/

@[expose] public section

namespace Cert.Words

open Idealize.ShloMosaic

theorem eight : Ideal.ofBits .f32 1090519040#32 = ((8 : ℝ) : EReal) := by
  simp [Ideal.ofBits, Ideal.ieee, -EReal.coe_mul]; norm_num

theorem vocab : Ideal.ofBits .f32 1176256512#32 = (((10000 : ℕ) : ℝ) : EReal) := by
  simp [Ideal.ofBits, Ideal.ieee, -EReal.coe_mul]; norm_num

theorem top : Ideal.ofBits .f32 2139095040#32 = ⊤ := by simp [Ideal.ofBits, Ideal.ieee]

theorem bot : Ideal.ofBits .f32 4286578688#32 = ⊥ := by simp [Ideal.ofBits, Ideal.ieee]

/-- The maximum of real values over an inhabited set, from minus infinity, is real. -/
theorem fold_max_set {ι : Type*} (s : Finset ι) (hs : s.Nonempty) (f : ι → ℝ) :
    ∃ r : ℝ, s.fold max (⊥ : EReal) (fun i => (f i : EReal)) = r := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (EReal.coe_strictMono.monotone.map_max).symm

/-- The range check on a token word. -/
theorem range_check {w : BitVec 32} (h : IntOp.andi (IntOp.cmpi .sge w 0#32) (IntOp.cmpi .slt w 10000#32) = 1#1) :
    w.toNat < 10000 := by
  word_cmp at h

/-- A float whose magnitude is below infinity is a real number. -/
theorem finite_check {x : EReal}
    (h : Ideal.cmp .olt (max x (-x)) (Ideal.ofBits .f32 2139095040#32) = 1#1) : ∃ r : ℝ, x = ↑r := by
  rw [top] at h
  induction x using EReal.rec with
  | bot => simp [Ideal.cmp] at h
  | top => simp [Ideal.cmp] at h
  | coe r => exact ⟨r, rfl⟩

/-- One row of the reference's one-hot matrix. -/
theorem one_hot (w : BitVec 32) (v : ℕ) (hv : v < 10000) :
    (FloatOps.uitofp (F := Ideal) .f32 (IntOp.cmpi .eq w (BitVec.ofNat 32 v)) : EReal) = if v = w.toNat then 1 else 0 := by
  have hb : IntOp.cmpi .eq w (BitVec.ofNat 32 v) = BitVec.ofBool (decide (w.toNat = v)) := by
    have : (w == BitVec.ofNat 32 v) = decide (w.toNat = v) := by
      rw [Bool.eq_iff_iff]; simp only [beq_iff_eq, decide_eq_true_eq]
      constructor
      · rintro rfl; rw [BitVec.toNat_ofNat]; omega
      · intro h; apply BitVec.eq_of_toNat_eq; rw [BitVec.toNat_ofNat]; omega
    rw [← this]; rfl
  rw [hb]
  show (((BitVec.ofBool (decide (w.toNat = v))).toNat : ℝ) : EReal) = _
  by_cases h : w.toNat = v
  · simp [h]
  · simp [h, Ne.symm h]

/-- The test of two token words cut to sixteen bits, as the kernel's table of equal tokens makes it. -/
theorem same_word {α : Type} (w u : BitVec 32) (hw : w.toNat < 10000) (hu : u.toNat < 10000) (a b : α) :
    Scalar.select (IntOp.cmpi .eq (BitVec.setWidth 16 w) (BitVec.setWidth 16 u)) a b
      = if w.toNat = u.toNat then a else b := by
  have hb : IntOp.cmpi .eq (BitVec.setWidth 16 w) (BitVec.setWidth 16 u) = BitVec.ofBool (decide (w.toNat = u.toNat)) := by
    have : (BitVec.setWidth 16 w == BitVec.setWidth 16 u) = decide (w.toNat = u.toNat) := by
      rw [Bool.eq_iff_iff]; simp only [beq_iff_eq, decide_eq_true_eq]
      rw [← BitVec.toNat_inj, BitVec.toNat_setWidth, BitVec.toNat_setWidth]; omega
    rw [← this]; rfl
  rw [hb, WordCmp.select_decide]

/-- The test of a row of the vocabulary chunk that starts at `k0` against a token word, at sixteen bits. -/
theorem chunk_word {α : Type} (k0 : ℕ) (hk : k0 ≤ 8000) (r : ℕ) (hr : r < 2000) (w : BitVec 32) (hw : w.toNat < 10000)
    (a b : α) :
    Scalar.select (IntOp.cmpi .eq (BitVec.ofNat 16 r) (BitVec.setWidth 16 (IntOp.subi w (BitVec.ofNat 32 k0)))) a b
      = if k0 + r = w.toNat then a else b := by
  have hb : IntOp.cmpi .eq (BitVec.ofNat 16 r) (BitVec.setWidth 16 (IntOp.subi w (BitVec.ofNat 32 k0)))
      = BitVec.ofBool (decide (k0 + r = w.toNat)) := by
    have : (BitVec.ofNat 16 r == BitVec.setWidth 16 (w - BitVec.ofNat 32 k0)) = decide (k0 + r = w.toNat) := by
      rw [Bool.eq_iff_iff]; simp only [beq_iff_eq, decide_eq_true_eq]
      rw [← BitVec.toNat_inj, BitVec.toNat_setWidth, BitVec.toNat_sub, BitVec.toNat_ofNat, BitVec.toNat_ofNat]; omega
    rw [← this]; rfl
  rw [hb, WordCmp.select_decide]

/-- A sum over the 1536 joined features is the sum over its three parts. -/
theorem sum_three (f : Fin 1536 → EReal) :
    ∑ x, f x = (∑ x : Fin 512, f ⟨x.val, by omega⟩ + ∑ x : Fin 512, f ⟨512 + x.val, by omega⟩)
      + ∑ x : Fin 512, f ⟨1024 + x.val, by omega⟩ := by
  rw [show (∑ x, f x) = ∑ x : Fin (512 + 512 + 512), f x from rfl, Fin.sum_univ_add, Fin.sum_univ_add]
  rfl

/-- The argument of the generation gate: context, decoder state and embedding against the three parts of the weights. -/
noncomputable def gate (w : Fin 1536 → EReal) (ctx dec emb : Fin 512 → EReal) (b : EReal) : EReal :=
  (∑ x : Fin 512, w ⟨x.val, by omega⟩ * ctx x + ∑ x : Fin 512, w ⟨512 + x.val, by omega⟩ * dec x)
    + ∑ x : Fin 512, w ⟨1024 + x.val, by omega⟩ * emb x + b

/-- The attention weight averaged over the eight heads. -/
noncomputable def avg (h : Fin 8 → ℝ) : ℝ := (∑ x, h x) / 8

theorem avg_eq (h : Fin 8 → ℝ) : Ideal.div (∑ x, ((h x : ℝ) : EReal)) (Ideal.ofBits .f32 1090519040#32) = ↑(avg h) := by
  rw [eight, Maths.coe_sum]
  exact Maths.div_real _ (by norm_num : (8 : ℝ) ≠ 0)

end Cert.Words
-- ==== Proof.Block.lean ====
module

public import proofs.«01_k».proof.Proof.Gen.KernelIdeal.Skeleton
public import proofs.«01_k».proof.Proof.Words
public import Idealize.ShloMosaic.Lib.Pointwise

/-! What the kernel's body computes for one batch element, at one index. -/

@[expose] public section

set_option maxRecDepth 16384

noncomputable section

namespace Cert.KernelIdeal.Block

open Idealize.ShloMosaic Idealize.ShloMosaic.TcCoe Idealize.SL.Sem
open Cert.KernelIdeal Cert.KernelIdeal.Gen

/-! ## The payloads, read at an index -/

section Read

variable (x0 : IVec S1x512x8 32) (x1 : IVec S1x1x512 32) (x4 : FVec Ideal S1x512x512 .f32) (x6 : FVec Ideal S1x8x128x512 .f32)
  (x2 x5 : FVec Ideal S1x128x512 .f32) (w1 w2 w3 : FVec Ideal S1x512 .f32) (A : FVec Ideal S128x512 .bf16)
  (z P C M : FVec Ideal S1x128 .f32) (S : FVec Ideal S128 .f32) (tk : IVec S1x512 32) (g : FVec Ideal S1x2000x128 .f32)
  (e : FVec Ideal S2000x128 .f32) (b sw sb n : Ideal .f32)

theorem avg_at (t : Fin 128) (i : Fin 512) :
    k0_pay5 (F := Ideal) x6 (ix2 t i) = Ideal.div (∑ x, x6 (ix4 0 x t i)) (Ideal.ofBits .f32 1090519040#32) := by
  pointwise [k0_pay5]

theorem avg16_at (t : Fin 128) (i : Fin 512) : k0_pay6 (F := Ideal) x6 (ix2 t i) = k0_pay5 (F := Ideal) x6 (ix2 t i) := by
  pointwise [k0_pay6]

theorem score_at (t : Fin 128) :
    k0_pay8 (F := Ideal) x6 x4 w1 w2 x5 (ix2 0 t) =
      ∑ x, w1 (ix2 0 x) * ((∑ i, x4 (ix3 0 i x) * k0_pay5 (F := Ideal) x6 (ix2 t i)
          + ∑ i, (x4 (ix3 0 i x) - x4 (ix3 0 i x)) * k0_pay5 (F := Ideal) x6 (ix2 t i))
          + ∑ i, x4 (ix3 0 i x) * (k0_pay5 (F := Ideal) x6 (ix2 t i) - k0_pay5 (F := Ideal) x6 (ix2 t i)))
        + ∑ x, w2 (ix2 0 x) * x5 (ix3 0 t x) := by
  pointwise [k0_pay8, k0_pay6]

theorem gate_at (t : Fin 128) :
    k0_pay10 (F := Ideal) (k0_pay7 w3) z (k0_pay9 x2) b (ix2 0 t) =
      Ideal.logistic (z (ix2 0 t) + ∑ x, w3 (ix2 0 x) * x2 (ix3 0 t x) + b) := by
  pointwise [k0_pay10, k0_pay7, k0_pay9]

theorem row_at (x : Fin 512) : k0_pay11 (F := Ideal) x1 (ix2 0 x) = x1 (ix3 0 0 x) := by
  pointwise [k0_pay11]

theorem same_at (i j : Fin 512) :
    k0_pay12 (F := Ideal) x1 x0 (ix2 i j) =
      Scalar.select (IntOp.cmpi .eq (BitVec.setWidth 16 (x0 (ix3 0 i 0))) (BitVec.setWidth 16 (x1 (ix3 0 0 j)))) (1 : EReal) 0 := by
  pointwise [k0_pay12, k0_pay11]

theorem inv_at (i : Fin 512) :
    k0_pay13 (F := Ideal) x1 x0 (ix2 i 0) = Ideal.div 1 (∑ x, k0_pay12 (F := Ideal) x1 x0 (ix2 i x)) := by
  pointwise [k0_pay13]

theorem distinct_at :
    k0_pay14 (F := Ideal) x1 x0 = ∑ x : Fin 512, ∑ _y : Fin 1, k0_pay13 (F := Ideal) x1 x0 (ix2 x 0) := by
  pointwise [k0_pay14]

theorem own_at (i : Fin 512) (t : Fin 128) :
    k0_pay15 (F := Ideal) A x1 x0 (ix2 i t) = ∑ x, k0_pay12 (F := Ideal) x1 x0 (ix2 i x) * A (ix2 t x) := by
  pointwise [k0_pay15]

theorem top_at (t : Fin 128) :
    k0_pay16 (F := Ideal) A x1 x0 (ix2 0 t) =
      max (Finset.fold max (Ideal.ofBits .f32 4286578688#32) (fun x => k0_pay15 (F := Ideal) A x1 x0 (ix2 x t)) Finset.univ) 0 := by
  pointwise [k0_pay16]

theorem sum_at (t : Fin 128) :
    k0_pay17 (F := Ideal) A x1 x0 (ix1 t) =
      ∑ x, Ideal.exp (k0_pay15 (F := Ideal) A x1 x0 (ix2 x t) - k0_pay16 (F := Ideal) A x1 x0 (ix2 0 t))
        * k0_pay13 (F := Ideal) x1 x0 (ix2 x 0) := by
  pointwise [k0_pay17]

theorem shift_at (t : Fin 128) :
    k0_pay18 (F := Ideal) sw sb n M S (ix2 0 t) =
      sb - sw * (M (ix2 0 t) + Ideal.log ((Ideal.ofBits .f32 1176256512#32 - n) * Ideal.exp (0 - M (ix2 0 t)) + S (ix1 t))) := by
  pointwise [k0_pay18]

/-- One row of one chunk of the vocabulary: the scale times the row of the one-hot table against the attention, and the shift. -/
def chunk (k : BitVec 32) (r : Fin 2000) (t : Fin 128) : EReal :=
  sw * (∑ x, Scalar.select (IntOp.cmpi .eq (BitVec.ofNat 16 r.val) (BitVec.setWidth 16 (IntOp.subi (tk (ix2 0 x)) k)))
    (A (ix2 t x) : EReal) 0) + C (ix2 0 t)

theorem chunk0_at (r : Fin 2000) (t : Fin 128) :
    k0_pay19 (F := Ideal) A sw sb tk n M S (ix2 r t) = chunk A (k0_pay18 (F := Ideal) sw sb n M S) tk sw 0#32 r t := by
  unfold chunk
  pointwise [k0_pay19]

theorem chunk1_at (r : Fin 2000) (t : Fin 128) :
    k0_pay23 (F := Ideal) A sw tk C (iota .tc S2000x512 16 [0] iota_S2000x512_d0_w16) k0_pay22 (ix2 r t) = chunk A C tk sw 2000#32 r t := by
  unfold chunk
  pointwise [k0_pay23, k0_pay22]

theorem chunk2_at (r : Fin 2000) (t : Fin 128) :
    k0_pay26 (F := Ideal) A sw tk C (ix2 r t) = chunk A C tk sw 4000#32 r t := by
  unfold chunk
  pointwise [k0_pay26]

theorem chunk3_at (r : Fin 2000) (t : Fin 128) :
    k0_pay29 (F := Ideal) A sw tk C (ix2 r t) = chunk A C tk sw 6000#32 r t := by
  unfold chunk
  pointwise [k0_pay29]

theorem chunk4_at (r : Fin 2000) (t : Fin 128) :
    k0_pay1 (F := Ideal) A sw tk C (ix2 r t) = chunk A C tk sw 8000#32 r t := by
  unfold chunk
  pointwise [k0_pay1]

theorem put0_at (r : Fin 2000) (t : Fin 128) :
    k0_pay20 (F := Ideal) A sw sb tk n M S (ix3 0 r t) = k0_pay19 (F := Ideal) A sw sb tk n M S (ix2 r t) := by
  pointwise [k0_pay20]

theorem put1_at (i : IVec S2000x512 16) (k : IVec S1x512 32) (r : Fin 2000) (t : Fin 128) :
    k0_pay24 (F := Ideal) A sw tk C i k (ix3 0 r t) = k0_pay23 (F := Ideal) A sw tk C i k (ix2 r t) := by
  pointwise [k0_pay24]

theorem put2_at (r : Fin 2000) (t : Fin 128) : k0_pay27 (F := Ideal) e (ix3 0 r t) = e (ix2 r t) := by
  pointwise [k0_pay27]

theorem put3_at (r : Fin 2000) (t : Fin 128) :
    k0_pay30 (F := Ideal) A sw tk C (ix3 0 r t) = k0_pay29 (F := Ideal) A sw tk C (ix2 r t) := by
  pointwise [k0_pay30]

theorem put4_at (r : Fin 2000) (t : Fin 128) :
    k0_pay2 (F := Ideal) A sw tk C (ix3 0 r t) = k0_pay1 (F := Ideal) A sw tk C (ix2 r t) := by
  pointwise [k0_pay2]

theorem mix0_at (r : Fin 2000) (t : Fin 128) :
    k0_pay21 (F := Ideal) A P sw sb tk n M S g (ix3 0 r t) =
      P (ix2 0 t) * (g (ix3 0 r t) - k0_pay19 (F := Ideal) A sw sb tk n M S (ix2 r t)) + k0_pay19 (F := Ideal) A sw sb tk n M S (ix2 r t) := by
  pointwise [k0_pay21]

theorem mix1_at (i : IVec S2000x512 16) (k : IVec S1x512 32) (r : Fin 2000) (t : Fin 128) :
    k0_pay25 (F := Ideal) A P sw tk C i k g (ix3 0 r t) =
      P (ix2 0 t) * (g (ix3 0 r t) - k0_pay23 (F := Ideal) A sw tk C i k (ix2 r t)) + k0_pay23 (F := Ideal) A sw tk C i k (ix2 r t) := by
  pointwise [k0_pay25]

theorem mix2_at (r : Fin 2000) (t : Fin 128) :
    k0_pay28 (F := Ideal) P e g (ix3 0 r t) = P (ix2 0 t) * (g (ix3 0 r t) - e (ix2 r t)) + e (ix2 r t) := by
  pointwise [k0_pay28]

theorem mix3_at (r : Fin 2000) (t : Fin 128) :
    k0_pay31 (F := Ideal) A P sw tk C g (ix3 0 r t) =
      P (ix2 0 t) * (g (ix3 0 r t) - k0_pay29 (F := Ideal) A sw tk C (ix2 r t)) + k0_pay29 (F := Ideal) A sw tk C (ix2 r t) := by
  pointwise [k0_pay31]

theorem mix4_at (r : Fin 2000) (t : Fin 128) :
    k0_pay3 (F := Ideal) A P sw tk C g (ix3 0 r t) =
      P (ix2 0 t) * (g (ix3 0 r t) - k0_pay1 (F := Ideal) A sw tk C (ix2 r t)) + k0_pay1 (F := Ideal) A sw tk C (ix2 r t) := by
  pointwise [k0_pay3]

theorem pg_at (t : Fin 128) : k0_pay4 (F := Ideal) P (ix3 0 0 t) = P (ix2 0 t) := by
  pointwise [k0_pay4]

end Read

/-! ## The same, over real inputs -/

/-- What is known of the blocks of one batch element at target position `t`: the tokens are vocabulary words, the
    attention, the encoder output and the two scalars are real. -/
structure Known (x0 : IVec S1x512x8 32) (x1 : IVec S1x1x512 32) (x4 : FVec Ideal S1x512x512 .f32)
    (x6 : FVec Ideal S1x8x128x512 .f32) (t : Fin 128) (tok : Fin 512 → Fin 10000) (h : Fin 8 → Fin 512 → ℝ) : Prop where
  col : ∀ i, (x0 (ix3 0 i 0)).toNat = (tok i).val
  row : ∀ i, (x1 (ix3 0 0 i)).toNat = (tok i).val
  enc : ∀ i x, ∃ r : ℝ, x4 (ix3 0 i x) = ↑r
  att : ∀ k i, x6 (ix4 0 k t i) = ↑(h k i)

namespace Known

variable {x0 : IVec S1x512x8 32} {x1 : IVec S1x1x512 32} {x4 : FVec Ideal S1x512x512 .f32} {x6 : FVec Ideal S1x8x128x512 .f32}
  {t : Fin 128} {tok : Fin 512 → Fin 10000} {h : Fin 8 → Fin 512 → ℝ} (H : Known x0 x1 x4 x6 t tok h)
include H

theorem attn (i : Fin 512) : k0_pay5 (F := Ideal) x6 (ix2 t i) = ↑(Words.avg fun k => h k i) := by
  rw [avg_at, ← Words.avg_eq]
  exact congrArg (fun s => Ideal.div s _) (Finset.sum_congr rfl fun k _ => H.att k i)

theorem attn16 (i : Fin 512) : k0_pay6 (F := Ideal) x6 (ix2 t i) = ↑(Words.avg fun k => h k i) := by
  rw [avg16_at, H.attn]

/-- The generation gate of one target position. -/
theorem gate (x2 x5 : FVec Ideal S1x128x512 .f32) (w1 w2 w3 : FVec Ideal S1x512 .f32) (b : Ideal .f32) (w : Fin 1536 → EReal)
    (h1 : ∀ x : Fin 512, w1 (ix2 0 x) = w ⟨x.val, by omega⟩) (h2 : ∀ x : Fin 512, w2 (ix2 0 x) = w ⟨512 + x.val, by omega⟩)
    (h3 : ∀ x : Fin 512, w3 (ix2 0 x) = w ⟨1024 + x.val, by omega⟩) :
    k0_pay10 (F := Ideal) (k0_pay7 w3) (k0_pay8 (F := Ideal) x6 x4 w1 w2 x5) (k0_pay9 x2) b (ix2 0 t) =
      Ideal.logistic (Words.gate w (fun x => ∑ i, ((Words.avg fun k => h k i : ℝ) : EReal) * x4 (ix3 0 i x))
        (fun x => x5 (ix3 0 t x)) (fun x => x2 (ix3 0 t x)) b) := by
  have hctx : ∀ x : Fin 512, (∑ i, x4 (ix3 0 i x) * k0_pay5 (F := Ideal) x6 (ix2 t i)
          + ∑ i, (x4 (ix3 0 i x) - x4 (ix3 0 i x)) * k0_pay5 (F := Ideal) x6 (ix2 t i))
          + ∑ i, x4 (ix3 0 i x) * (k0_pay5 (F := Ideal) x6 (ix2 t i) - k0_pay5 (F := Ideal) x6 (ix2 t i))
        = ∑ i, ((Words.avg fun k => h k i : ℝ) : EReal) * x4 (ix3 0 i x) := by
    intro x
    have e1 : ∑ i, (x4 (ix3 0 i x) - x4 (ix3 0 i x)) * k0_pay5 (F := Ideal) x6 (ix2 t i) = (0 : EReal) := by
      refine Finset.sum_eq_zero fun i _ => ?_
      obtain ⟨r, hr⟩ := H.enc i x
      rw [hr, ← EReal.coe_sub, sub_self, EReal.coe_zero, zero_mul]
    have e2 : ∑ i, x4 (ix3 0 i x) * (k0_pay5 (F := Ideal) x6 (ix2 t i) - k0_pay5 (F := Ideal) x6 (ix2 t i)) = (0 : EReal) := by
      refine Finset.sum_eq_zero fun i _ => ?_
      rw [H.attn, ← EReal.coe_sub, sub_self, EReal.coe_zero, mul_zero]
    rw [e1, e2, add_zero, add_zero]
    exact Finset.sum_congr rfl fun i _ => by rw [H.attn, mul_comm]
  rw [gate_at, score_at]
  unfold Words.gate
  simp only [hctx, h1, h2, h3]

theorem same (i j : Fin 512) : k0_pay12 (F := Ideal) x1 x0 (ix2 i j) = (((if tok i = tok j then 1 else 0 : ℝ)) : EReal) := by
  have hi : (x0 (ix3 0 i 0)).toNat < 10000 := by rw [H.col]; exact (tok i).isLt
  have hj : (x1 (ix3 0 0 j)).toNat < 10000 := by rw [H.row]; exact (tok j).isLt
  rw [same_at, Words.same_word _ _ hi hj, H.col, H.row]
  by_cases e : tok i = tok j
  · simp [e]
  · rw [if_neg (fun h => e (Fin.ext h)), if_neg e]; simp

theorem inv (i : Fin 512) : k0_pay13 (F := Ideal) x1 x0 (ix2 i 0) = ((1 / Maths.mult tok i : ℝ) : EReal) := by
  rw [inv_at]
  simp only [H.same]
  rw [Maths.coe_sum]
  exact Maths.div_real 1 (Maths.mult_pos tok i).ne'

theorem distinct : k0_pay14 (F := Ideal) x1 x0 = ((∑ i, 1 / Maths.mult tok i : ℝ) : EReal) := by
  rw [distinct_at, ← Maths.coe_sum]
  refine Finset.sum_congr rfl fun i _ => ?_
  rw [H.inv]
  simp

theorem own (i : Fin 512) : k0_pay15 (F := Ideal) (k0_pay6 x6) x1 x0 (ix2 i t)
    = ((Maths.hits tok (fun i => Words.avg fun k => h k i) (tok i) : ℝ) : EReal) := by
  rw [own_at]
  unfold Maths.hits
  rw [← Maths.coe_sum]
  refine Finset.sum_congr rfl fun j _ => ?_
  rw [H.same, H.attn16, ← EReal.coe_mul]
  by_cases e : tok i = tok j <;> simp [e]

theorem top : ∃ m : ℝ, k0_pay16 (F := Ideal) (k0_pay6 x6) x1 x0 (ix2 0 t) = ↑m := by
  obtain ⟨r, hr⟩ := Words.fold_max_set Finset.univ (Finset.univ_nonempty (α := Fin 512))
    (fun i => Maths.hits tok (fun i => Words.avg fun k => h k i) (tok i))
  refine ⟨max r 0, ?_⟩
  rw [top_at, Words.bot]
  simp only [H.own]
  rw [hr]
  exact (EReal.coe_strictMono.monotone.map_max).symm

/-- One row of one chunk is the closed form at its vocabulary word. -/
theorem chunk_real {sw sb : Ideal .f32} {rsw rsb : ℝ} (hsw : sw = ↑rsw) (hsb : sb = ↑rsb) (k0 : ℕ) (hk : k0 ≤ 8000) (r : Fin 2000)
    (v : Fin 10000) (hv : v.val = k0 + r.val) :
    chunk (k0_pay6 (F := Ideal) x6) (k0_pay18 (F := Ideal) sw sb (k0_pay14 (F := Ideal) x1 x0)
        (k0_pay16 (F := Ideal) (k0_pay6 x6) x1 x0) (k0_pay17 (F := Ideal) (k0_pay6 x6) x1 x0))
      (k0_pay11 (F := Ideal) x1) sw (BitVec.ofNat 32 k0) r t
      = ((Maths.ptr tok (fun i => Words.avg fun k => h k i) rsw rsb v : ℝ) : EReal) := by
  obtain ⟨m, hm⟩ := H.top
  have hsum : (∑ x, Scalar.select (IntOp.cmpi .eq (BitVec.ofNat 16 r.val)
        (BitVec.setWidth 16 (IntOp.subi (k0_pay11 (F := Ideal) x1 (ix2 0 x)) (BitVec.ofNat 32 k0))))
      (k0_pay6 (F := Ideal) x6 (ix2 t x) : EReal) 0) = ((Maths.hits tok (fun i => Words.avg fun k => h k i) v : ℝ) : EReal) := by
    unfold Maths.hits
    rw [← Maths.coe_sum]
    refine Finset.sum_congr rfl fun x _ => ?_
    have hw : (k0_pay11 (F := Ideal) x1 (ix2 0 x)).toNat = (tok x).val := by rw [row_at, H.row]
    rw [Words.chunk_word k0 hk _ r.isLt _ (by rw [hw]; exact (tok x).isLt), hw, H.attn16]
    by_cases e : v = tok x
    · rw [if_pos e, if_pos (by rw [← hv, e])]
    · rw [if_neg e, if_neg (fun h => e (Fin.ext (hv.trans h)))]; simp
  unfold chunk
  rw [hsum, shift_at, sum_at]
  simp only [hm, H.own, H.inv, H.distinct, Words.vocab, hsw, hsb]
  exact Maths.ptr_kernel tok _ (by norm_num) rsw rsb m v

end Known

/-- The kernel's blend of the two distributions is the reference's. -/
theorem blend (z : EReal) (g : EReal) (c : ℝ) :
    Ideal.logistic z * (g - ↑c) + ↑c = Ideal.logistic z * g + (1 - Ideal.logistic z) * ↑c := by
  obtain ⟨p, h0, _, hp⟩ := Maths.logistic_real z
  rw [hp]
  exact Maths.mix p c h0 g

end Cert.KernelIdeal.Block
-- ==== Proof.Ref.lean ====
module

public import proofs.«01_k».proof.Proof.Gen.ReferenceIdeal.Read
public import proofs.«01_k».proof.Proof.Words
public import Idealize.ShloMosaic.Lib.Pointwise

/-! The reference, stage by stage, at one index. -/

@[expose] public section

set_option maxRecDepth 16384

noncomputable section

namespace Cert.ReferenceIdeal.At

open Idealize.ShloMosaic Idealize.ShloMosaic.TcCoe Idealize.SL.Sem
open Cert.ReferenceIdeal Cert.ReferenceIdeal.Read Cert.ReferenceIdeal.Gen

variable (x0 : IVec S8x512 32) (x1 : FVec Ideal S8x128x512 .f32) (x2 : FVec Ideal S8x128x10000 .f32) (x3 : FVec Ideal S8x512x512 .f32) (x4 : FVec Ideal S8x128x512 .f32)
  (x5 : FVec Ideal S8x8x128x512 .f32) (x6 : FVec Ideal S1536x1 .f32) (x7 : FVec Ideal S1 .f32) (x8 x9 : FVec Ideal S_ .f32)

theorem attn_at (b : Fin 8) (t : Fin 128) (i : Fin 512) :
    val_main_v2 (F := Ideal) x5 (ix3 b t i) = Ideal.div (∑ x, x5 (ix4 b x t i)) (Ideal.ofBits .f32 1090519040#32) := by
  pointwise [val_main_v2, val_main_v0, val_main_v1, val_main_cst, val_main_cst_0]

theorem context_at (b : Fin 8) (t : Fin 128) (x : Fin 512) :
    val_main_v3 (F := Ideal) x3 x5 (ix3 b t x) = ∑ i, val_main_v2 (F := Ideal) x5 (ix3 b t i) * x3 (ix3 b i x) := by
  pointwise [val_main_v3]

theorem joined_at (b : Fin 8) (t : Fin 128) (x : Fin 1536) :
    val_main_v4 (F := Ideal) x1 x3 x4 x5 (ix3 b t x) =
      if h : x.val < 512 then val_main_v3 (F := Ideal) x3 x5 (ix3 b t ⟨x.val, h⟩)
      else if h' : x.val - 512 < 512 then x4 (ix3 b t ⟨x.val - 512, h'⟩)
      else x1 (ix3 b t ⟨x.val - 512 - 512, by omega⟩) := by
  pointwise [val_main_v4]

theorem pgen_at (b : Fin 8) (t : Fin 128) :
    val_main_v14 (F := Ideal) x1 x3 x4 x5 x6 x7 (ix3 b t 0) =
      Ideal.logistic (Words.gate (fun x => x6 (ix2 x 0)) (fun x => val_main_v3 (F := Ideal) x3 x5 (ix3 b t x))
        (fun x => x4 (ix3 b t x)) (fun x => x1 (ix3 b t x)) (x7 (ix1 0))) := by
  have h : val_main_v14 (F := Ideal) x1 x3 x4 x5 x6 x7 (ix3 b t 0) =
      Ideal.logistic ((∑ x : Fin 1536, val_main_v4 (F := Ideal) x1 x3 x4 x5 (ix3 b t x) * x6 (ix2 x 0)) + x7 (ix1 0)) := by
    pointwise [val_main_v14, val_main_v13, val_main_v12, val_main_v11, val_main_v10, val_main_v9, val_main_v8, val_main_v7, val_main_v6, val_main_v5, val_main_cst_1, val_main_cst_2]
    rfl
  rw [h, Words.sum_three]
  unfold Words.gate
  refine congrArg Ideal.logistic (congrArg (· + x7 (ix1 0)) ?_)
  refine congrArg₂ (· + ·) (congrArg₂ (· + ·) ?_ ?_) ?_
  · refine Finset.sum_congr rfl fun x _ => ?_
    rw [joined_at, dif_pos x.isLt, mul_comm]
  · refine Finset.sum_congr rfl fun x _ => ?_
    rw [joined_at, dif_neg (by simp), dif_pos (by simp), mul_comm]
    simp
  · refine Finset.sum_congr rfl fun x _ => ?_
    rw [joined_at, dif_neg (by simp; omega), dif_neg (by simp; omega), mul_comm]
    have e : (⟨1024 + x.val - 512 - 512, by omega⟩ : Fin 512) = x := Fin.ext (by simp; omega)
    rw [e]

theorem scatter_at (b : Fin 8) (t : Fin 128) (v : Fin 10000) :
    val_main_v16 (F := Ideal) x0 x5 (ix3 b t v) = ∑ x, val_main_v2 (F := Ideal) x5 (ix3 b t x)
      * FloatOps.uitofp (F := Ideal) .f32 (IntOp.cmpi .eq (x0 (ix2 b x)) (BitVec.ofNat 32 v.val)) := by
  pointwise [val_main_v16, val_main_v15, val_main_call0_v4, val_main_call0_v3, val_main_call0_v2, val_main_call0_v1, val_main_call0_v0]

/-- The maximum of real values over the vocabulary, from minus infinity, is real. -/
theorem reduce_max_real (y : FVec Ideal S8x128x10000 .f32) (hy : ∀ i, ∃ r : ℝ, y i = ↑r) (b : Fin 8) (t : Fin 128) :
    ∃ r : ℝ, Host.reduce FloatOps.maximumf y (val_main_call1_cst (F := Ideal)) reducesTo_S8x128x10000_S8x128_d2 h_S_ (ix2 b t) = (r : EReal) := by
  choose f hf using hy
  rw [Host.reduce_eq_fold, show y = fun i => ((f i : ℝ) : EReal) from funext hf]
  have hne : ix3 b t 0 ∈ Finset.univ.filter (fun i => reducesTo_S8x128x10000_S8x128_d2.drop i = ix2 b t) := by
    rw [Finset.mem_filter]
    refine ⟨Finset.mem_univ _, ?_⟩
    funext a; fin_cases a <;> rfl
  have hi : val_main_call1_cst (F := Ideal) (Shape.Idx.first h_S_) = (⊥ : EReal) := Words.bot
  rw [hi]
  exact Words.fold_max_set _ ⟨_, hne⟩ f

theorem max_real (hy : ∀ i, ∃ r : ℝ, val_main_v16 (F := Ideal) x0 x5 i = ↑r) (b : Fin 8) (t : Fin 128) :
    ∃ r : ℝ, val_main_call1_v2 (F := Ideal) x0 x5 (ix2 b t) = ↑r := by
  obtain ⟨r, hr⟩ := reduce_max_real _ hy b t
  refine ⟨r, ?_⟩
  rw [val_main_call1_v2_apply, val_main_call1_v1_apply]
  refine (congrArg (FloatOps.maximumf (F := Ideal) _) hr).trans ?_
  show max (Ideal.ofBits .f32 4286578688#32) (r : EReal) = r
  rw [Words.bot, max_eq_right bot_le]

theorem shifted_at (b : Fin 8) (t : Fin 128) (v : Fin 10000) :
    val_main_call1_v5 (F := Ideal) x0 x5 (ix3 b t v) =
      val_main_v16 (F := Ideal) x0 x5 (ix3 b t v) - val_main_call1_v2 (F := Ideal) x0 x5 (ix2 b t) := by
  pointwise [val_main_call1_v5, val_main_call1_v4, val_main_call1_v3]

theorem norm_at (b : Fin 8) (t : Fin 128) :
    val_main_call1_v7 (F := Ideal) x0 x5 (ix2 b t) = ∑ v, Ideal.exp (val_main_call1_v5 (F := Ideal) x0 x5 (ix3 b t v)) := by
  pointwise [val_main_call1_v7, val_main_call1_v6, val_main_call1_cst_1]

theorem soft_at (b : Fin 8) (t : Fin 128) (v : Fin 10000) :
    val_main_v17 (F := Ideal) x0 x5 (ix3 b t v) =
      val_main_call1_v5 (F := Ideal) x0 x5 (ix3 b t v) - Ideal.log (val_main_call1_v7 (F := Ideal) x0 x5 (ix2 b t)) := by
  pointwise [val_main_v17, val_main_call1_v10, val_main_call1_v9, val_main_call1_v8]

theorem scaled_at (b : Fin 8) (t : Fin 128) (v : Fin 10000) :
    val_main_v21 (F := Ideal) x0 x5 x8 x9 (ix3 b t v) = x8 ix0 * val_main_v17 (F := Ideal) x0 x5 (ix3 b t v) + x9 ix0 := by
  pointwise [val_main_v21, val_main_v20, val_main_v19, val_main_v18]

theorem final_at (b : Fin 8) (t : Fin 128) (v : Fin 10000) :
    val_main_v28 (F := Ideal) x0 x1 x2 x3 x4 x5 x6 x7 x8 x9 (ix3 b t v) =
      val_main_v14 (F := Ideal) x1 x3 x4 x5 x6 x7 (ix3 b t 0) * x2 (ix3 b t v)
        + (1 - val_main_v14 (F := Ideal) x1 x3 x4 x5 x6 x7 (ix3 b t 0)) * val_main_v21 (F := Ideal) x0 x5 x8 x9 (ix3 b t v) := by
  pointwise [val_main_v28, val_main_v27, val_main_v26, val_main_v25, val_main_v24, val_main_v23, val_main_v22, val_main_cst_3]

theorem gate_at (b : Fin 8) (t : Fin 128) :
    val_main_v29 (F := Ideal) x1 x3 x4 x5 x6 x7 (ix2 b t) = val_main_v14 (F := Ideal) x1 x3 x4 x5 x6 x7 (ix3 b t 0) := by
  pointwise [val_main_v29]

section Reals

variable {x0 x5 x8 x9} {b : Fin 8} {t : Fin 128} {tok : Fin 512 → Fin 10000} {h : Fin 8 → Fin 512 → ℝ} {sw sb : ℝ}

theorem attn_real (hh : ∀ k i, x5 (ix4 b k t i) = ↑(h k i)) (i : Fin 512) :
    val_main_v2 (F := Ideal) x5 (ix3 b t i) = ↑(Words.avg fun k => h k i) := by
  rw [attn_at, ← Words.avg_eq]
  exact congrArg (fun s => Ideal.div s _) (Finset.sum_congr rfl fun k _ => hh k i)

theorem scatter_real (htok : ∀ i, (x0 (ix2 b i)).toNat = (tok i).val) (hh : ∀ k i, x5 (ix4 b k t i) = ↑(h k i)) (v : Fin 10000) :
    val_main_v16 (F := Ideal) x0 x5 (ix3 b t v) = ↑(Maths.hits tok (fun i => Words.avg fun k => h k i) v) := by
  rw [scatter_at]
  unfold Maths.hits
  rw [← Maths.coe_sum]
  refine Finset.sum_congr rfl fun i _ => ?_
  rw [Words.one_hot _ _ v.isLt, attn_real hh, htok]
  by_cases e : v = tok i
  · subst e; simp
  · rw [if_neg (fun h => e (Fin.ext h)), if_neg e]; simp

/-- The reference's second result is the real function that the kernel's closed form is. -/
theorem scaled_real (htok : ∀ i, (x0 (ix2 b i)).toNat = (tok i).val) (hh : ∀ k i, x5 (ix4 b k t i) = ↑(h k i))
    (hy : ∀ i, ∃ r : ℝ, val_main_v16 (F := Ideal) x0 x5 i = ↑r)
    (hsw : x8 ix0 = ↑sw) (hsb : x9 ix0 = ↑sb) (v : Fin 10000) :
    val_main_v21 (F := Ideal) x0 x5 x8 x9 (ix3 b t v) = ↑(Maths.ptr tok (fun i => Words.avg fun k => h k i) sw sb v) := by
  obtain ⟨M, hM⟩ := max_real x0 x5 hy b t
  rw [scaled_at, soft_at, norm_at]
  simp only [shifted_at, scatter_real htok hh, hM, hsw, hsb]
  exact Maths.ptr_reference tok _ (by norm_num) sw sb M v

end Reals

end Cert.ReferenceIdeal.At
-- ==== Proof.Arrays.lean ====
module

public import proofs.«01_k».proof.Proof.Reads
public import proofs.«01_k».proof.Proof.Block
public import proofs.«01_k».proof.Proof.Ref

/-! The kernel's three output arrays after its run, as the reference's results. -/

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Reads

variable (m : (ℓ : Loc nD τ sig) → Buf (Elt Ideal) ℓ) (c : Dev nD)

abbrev a0 : IVec S8x512 32 := m (((c : Dev nD).tc : Thread nD τ).loc main_arg0)
abbrev a1 : FVec Ideal S8x128x512 .f32 := m (((c : Dev nD).tc : Thread nD τ).loc main_arg1)
abbrev a2 : FVec Ideal S8x128x10000 .f32 := m (((c : Dev nD).tc : Thread nD τ).loc main_arg2)
abbrev a3 : FVec Ideal S8x512x512 .f32 := m (((c : Dev nD).tc : Thread nD τ).loc main_arg3)
abbrev a4 : FVec Ideal S8x128x512 .f32 := m (((c : Dev nD).tc : Thread nD τ).loc main_arg4)
abbrev a5 : FVec Ideal S8x8x128x512 .f32 := m (((c : Dev nD).tc : Thread nD τ).loc main_arg5)
abbrev a6 : FVec Ideal S1536x1 .f32 := m (((c : Dev nD).tc : Thread nD τ).loc main_arg6)
abbrev a7 : FVec Ideal S1 .f32 := m (((c : Dev nD).tc : Thread nD τ).loc main_arg7)
abbrev a8 : FVec Ideal S_ .f32 := m (((c : Dev nD).tc : Thread nD τ).loc main_arg8)
abbrev a9 : FVec Ideal S_ .f32 := m (((c : Dev nD).tc : Thread nD τ).loc main_arg9)

/-- The reference's three results at the kernel's arguments. -/
abbrev refFinal : FVec Ideal S8x128x10000 .f32 :=
  Cert.ReferenceIdeal.Read.val_main_v28 (F := Ideal) (a0 m c) (a1 m c) (a2 m c) (a3 m c) (a4 m c) (a5 m c) (a6 m c) (a7 m c) (a8 m c) (a9 m c)
abbrev refPtr : FVec Ideal S8x128x10000 .f32 :=
  Cert.ReferenceIdeal.Read.val_main_v21 (F := Ideal) (a0 m c) (a5 m c) (a8 m c) (a9 m c)
abbrev refGate : FVec Ideal Cert.ReferenceIdeal.S8x128x1 .f32 :=
  Cert.ReferenceIdeal.Read.val_main_v14 (F := Ideal) (a1 m c) (a3 m c) (a4 m c) (a5 m c) (a6 m c) (a7 m c)

/-- An index of a stored chunk is a row and a target position. -/
theorem chunk_idx (x : S1x2000x128.Idx) : ∃ (r : Fin 2000) (s : Fin 128), x = ix3 0 r s := by
  refine ⟨x 1, x 2, ?_⟩
  have h : (x 0).val < 1 := (x 0).isLt
  have e : @Eq (Fin 1) (x 0) 0 := Fin.ext (Nat.lt_one_iff.mp h)
  exact (eq_ix3 x).trans (congrArg (fun a : Fin 1 => ix3 a (x 1) (x 2)) e)

/-- What the precondition says of the arguments: the tokens are vocabulary words, four of the floats are real. -/
structure Good (tok : Fin 8 → Fin 512 → Fin 10000) (h : Fin 8 → Fin 8 → Fin 128 → Fin 512 → ℝ) (sw sb : ℝ) : Prop where
  tokens : ∀ b i, (a0 m c (ix2 b i)).toNat = (tok b i).val
  enc : ∀ b i x, ∃ r : ℝ, a3 m c (ix3 b i x) = ↑r
  att : ∀ b k t i, a5 m c (ix4 b k t i) = ↑(h b k t i)
  scale : a8 m c ix0 = ↑sw
  shift : a9 m c ix0 = ↑sb

namespace Good

variable {m c} {tok : Fin 8 → Fin 512 → Fin 10000} {h : Fin 8 → Fin 8 → Fin 128 → Fin 512 → ℝ} {sw sb : ℝ}
  (H : Good m c tok h sw sb)
include H

/-- The closed form of the pointer scores. -/
theorem ptr_ref (b : Fin 8) (s : Fin 128) (v : Fin 10000) :
    refPtr m c (ix3 b s v) = ((Maths.ptr (tok b) (fun i => Words.avg fun k => h b k s i) sw sb v : ℝ) : EReal) := by
  refine Cert.ReferenceIdeal.At.scaled_real (x0 := a0 m c) (x5 := a5 m c) (x8 := a8 m c) (x9 := a9 m c) (b := b) (t := s)
    (tok := tok b) (h := fun k i => h b k s i) (H.tokens b) (fun k i => H.att b k s i) ?_ H.scale H.shift v
  intro i
  obtain ⟨b', s', v', rfl⟩ : ∃ (b' : Fin 8) (s' : Fin 128) (v' : Fin 10000), i = ix3 b' s' v' := ⟨i 0, i 1, i 2, eq_ix3 i⟩
  exact ⟨_, Cert.ReferenceIdeal.At.scatter_real (x0 := a0 m c) (x5 := a5 m c) (tok := tok b') (h := fun k i => h b' k s' i)
    (H.tokens b') (fun k i => H.att b' k s' i) v'⟩

/-- The argument of the gate at one target position. -/
def z (_ : Good m c tok h sw sb) (b : Fin 8) (s : Fin 128) : EReal :=
  Words.gate (fun x => a6 m c (ix2 x 0)) (fun x => ∑ i, ((Words.avg fun k => h b k s i : ℝ) : EReal) * a3 m c (ix3 b i x))
    (fun x => a4 m c (ix3 b s x)) (fun x => a1 m c (ix3 b s x)) (a7 m c (ix1 0))

theorem gate_ref (b : Fin 8) (s : Fin 128) : refGate m c (ix3 b s 0) = Ideal.logistic (H.z b s) := by
  refine (Cert.ReferenceIdeal.At.pgen_at (a1 m c) (a3 m c) (a4 m c) (a5 m c) (a6 m c) (a7 m c) b s).trans ?_
  have e : (fun x => Cert.ReferenceIdeal.Read.val_main_v3 (F := Ideal) (a3 m c) (a5 m c) (ix3 b s x))
      = fun x => ∑ i, ((Words.avg fun k => h b k s i : ℝ) : EReal) * a3 m c (ix3 b i x) := by
    funext x
    refine (Cert.ReferenceIdeal.At.context_at (a3 m c) (a5 m c) b s x).trans ?_
    refine Finset.sum_congr rfl fun i _ => ?_
    exact congrArg (· * a3 m c (ix3 b i x)) (Cert.ReferenceIdeal.At.attn_real (x5 := a5 m c) (h := fun k i => h b k s i)
      (fun k i => H.att b k s i) i)
  rw [e]; rfl

theorem final_ref (b : Fin 8) (s : Fin 128) (v : Fin 10000) :
    refFinal m c (ix3 b s v) = Ideal.logistic (H.z b s) * a2 m c (ix3 b s v)
      + (1 - Ideal.logistic (H.z b s)) * ((Maths.ptr (tok b) (fun i => Words.avg fun k => h b k s i) sw sb v : ℝ) : EReal) := by
  rw [← H.gate_ref, ← H.ptr_ref]
  exact Cert.ReferenceIdeal.At.final_at _ _ _ _ _ _ _ _ _ _ b s v

/-- The blocks of a grid point hold what the arguments do. -/
theorem known (t : Fin cfg0.N) (s : Fin 128) :
    Block.Known (iblk m c 0 t) (iblk m c 1 t) (iblk m c 4 t) (iblk m c 6 t) s (tok (batch t)) (fun k i => h (batch t) k s i) where
  col i := by rw [read0]; exact H.tokens _ i
  row i := by rw [read1]; exact H.tokens _ i
  enc i x := by rw [read4]; exact H.enc _ i x
  att k i := by rw [read6]; exact H.att _ k s i

/-- The scalars of a grid point. -/
theorem scale_ld (t : Fin cfg0.N) (inb) (x : S1.Idx) :
    View.ld (iblk m c 8 t) (Rect.unit (s := S3) ![1] ![1] inb) x = (sw : EReal) :=
  (scalar m c t 1 inb x).trans ((read8_1 m c t).trans H.scale)

theorem shift_ld (t : Fin cfg0.N) (inb) (x : S1.Idx) :
    View.ld (iblk m c 8 t) (Rect.unit (s := S3) ![2] ![1] inb) x = (sb : EReal) :=
  (scalar m c t 2 inb x).trans ((read8_2 m c t).trans H.shift)

/-- The gate that a grid point computes. -/
theorem gate_blk (t : Fin cfg0.N) (i0 i1 i2 i3) (x : S1.Idx) (s : Fin 128) :
    k0_pay10 (F := Ideal) (k0_pay7 (View.ld (iblk m c 7 t) (Rect.unit (s := S1x1536) ![0, 1024] ![1, 512] i0)))
        (k0_pay8 (F := Ideal) (iblk m c 6 t) (iblk m c 4 t)
          (View.ld (iblk m c 7 t) (Rect.unit (s := S1x1536) ![0, 0] ![1, 512] i1))
          (View.ld (iblk m c 7 t) (Rect.unit (s := S1x1536) ![0, 512] ![1, 512] i2)) (iblk m c 5 t))
        (k0_pay9 (iblk m c 2 t)) (View.ld (iblk m c 8 t) (Rect.unit (s := S3) ![0] ![1] i3) x) (ix2 0 s)
      = Ideal.logistic (H.z (batch t) s) := by
  refine ((H.known t s).gate (iblk m c 2 t) (iblk m c 5 t) _ _ _ _ (fun x => a6 m c (ix2 x 0)) ?_ ?_ ?_).trans ?_
  · intro x
    refine (weights m c t 0 i1 x (by omega)).trans ?_
    simp
  · intro x
    exact weights m c t 512 i2 x (by omega)
  · intro x
    exact weights m c t 1024 i0 x (by omega)
  · unfold Good.z
    refine congrArg Ideal.logistic ?_
    simp only [read2, read4, read5]
    exact congrArg (Words.gate _ _ _ _) ((scalar m c t 0 i3 x).trans (read8_0 m c t))

/-- A row of a chunk that a grid point computes. -/
theorem chunk_blk (t : Fin cfg0.N) (i1 i2 : _) (x1 x2 : S1.Idx) (k0 : ℕ) (hk : k0 ≤ 8000) (r : Fin 2000) (s : Fin 128) (v : Fin 10000)
    (hv : v.val = k0 + r.val) :
    Block.chunk (k0_pay6 (F := Ideal) (iblk m c 6 t))
        (k0_pay18 (F := Ideal) (View.ld (iblk m c 8 t) (Rect.unit (s := S3) ![1] ![1] i1) x1)
          (View.ld (iblk m c 8 t) (Rect.unit (s := S3) ![2] ![1] i2) x2) (k0_pay14 (F := Ideal) (iblk m c 1 t) (iblk m c 0 t))
          (k0_pay16 (F := Ideal) (k0_pay6 (iblk m c 6 t)) (iblk m c 1 t) (iblk m c 0 t))
          (k0_pay17 (F := Ideal) (k0_pay6 (iblk m c 6 t)) (iblk m c 1 t) (iblk m c 0 t)))
        (k0_pay11 (F := Ideal) (iblk m c 1 t)) (View.ld (iblk m c 8 t) (Rect.unit (s := S3) ![1] ![1] i1) x1) (BitVec.ofNat 32 k0) r s
      = ((Maths.ptr (tok (batch t)) (fun i => Words.avg fun k => h (batch t) k s i) sw sb v : ℝ) : EReal) :=
  (H.known t s).chunk_real (H.scale_ld t i1 x1) (H.shift_ld t i2 x2) k0 hk r v hv

/-- The second output's block: the pointer scores. -/
theorem ptr_point (t : Fin cfg0.N) (y : S1x10000x128.Idx) :
    (outsAt0 m c t).2.1 y = refPtr m c (ix3 (batch t) (y 2) (y 1)) := by
  unfold outsAt0
  frame_out
  canon_tiles x hx
  all_goals
    obtain ⟨r, s, rfl⟩ := chunk_idx x
    refine Eq.trans ?_ (H.ptr_ref (batch t) (y 2) (y 1)).symm
    have hs : (y 2 : Fin 128) = s := Fin.ext hx2
    rw [hs]
  · refine (Block.put4_at _ _ _ _ r s).trans ((Block.chunk4_at _ _ _ _ r s).trans (H.chunk_blk t _ _ _ _ 8000 (by norm_num) r s _ ?_))
    exact hx1
  · refine (Block.put3_at _ _ _ _ r s).trans ((Block.chunk3_at _ _ _ _ r s).trans (H.chunk_blk t _ _ _ _ 6000 (by norm_num) r s _ ?_))
    exact hx1
  · refine (Block.put2_at _ r s).trans ((Block.chunk2_at _ _ _ _ r s).trans (H.chunk_blk t _ _ _ _ 4000 (by norm_num) r s _ ?_))
    exact hx1
  · refine (Block.put1_at _ _ _ _ _ _ r s).trans ((Block.chunk1_at _ _ _ _ r s).trans (H.chunk_blk t _ _ _ _ 2000 (by norm_num) r s _ ?_))
    exact hx1
  · replace hx1 : (y 1).val = 0 + r.val := hx1.trans (Nat.zero_add _).symm
    refine (Block.put0_at _ _ _ _ _ _ _ r s).trans ((Block.chunk0_at _ _ _ _ _ _ _ r s).trans (H.chunk_blk t _ _ _ _ 0 (by norm_num) r s _ ?_))
    exact hx1

theorem mix_eq (t : Fin cfg0.N) (s : Fin 128) (v : Fin 10000) {P g C : EReal} (hP : P = Ideal.logistic (H.z (batch t) s))
    (hg : g = a2 m c (ix3 (batch t) s v))
    (hC : C = ((Maths.ptr (tok (batch t)) (fun i => Words.avg fun k => h (batch t) k s i) sw sb v : ℝ) : EReal)) :
    P * (g - C) + C = Ideal.logistic (H.z (batch t) s) * (a2 m c (ix3 (batch t) s v)
        - ((Maths.ptr (tok (batch t)) (fun i => Words.avg fun k => h (batch t) k s i) sw sb v : ℝ) : EReal))
      + ((Maths.ptr (tok (batch t)) (fun i => Words.avg fun k => h (batch t) k s i) sw sb v : ℝ) : EReal) := by
  rw [hP, hg, hC]

/-- The first output's block: the final distribution. -/
theorem final_point (t : Fin cfg0.N) (y : S1x10000x128.Idx) :
    (outsAt0 m c t).1 y = refFinal m c (ix3 (batch t) (y 2) (y 1)) := by
  unfold outsAt0
  frame_out
  canon_tiles x hx
  all_goals
    obtain ⟨r, s, rfl⟩ := chunk_idx x
    refine Eq.trans ?_ (H.final_ref (batch t) (y 2) (y 1)).symm
    have hs : (y 2 : Fin 128) = s := Fin.ext hx2
    rw [hs, ← Block.blend]
  · refine (Block.mix4_at _ _ _ _ _ _ r s).trans ?_
    rw [Block.chunk4_at]
    exact H.mix_eq t s (y 1) (H.gate_blk t _ _ _ _ _ s) (chunk m c t 8000 _ r s (y 1) hx1)
      (H.chunk_blk t _ _ _ _ 8000 (by norm_num) r s _ hx1)
  · refine (Block.mix3_at _ _ _ _ _ _ r s).trans ?_
    rw [Block.chunk3_at]
    exact H.mix_eq t s (y 1) (H.gate_blk t _ _ _ _ _ s) (chunk m c t 6000 _ r s (y 1) hx1)
      (H.chunk_blk t _ _ _ _ 6000 (by norm_num) r s _ hx1)
  · refine (Block.mix2_at _ _ _ r s).trans ?_
    rw [Block.chunk2_at]
    exact H.mix_eq t s (y 1) (H.gate_blk t _ _ _ _ _ s) (chunk m c t 4000 _ r s (y 1) hx1)
      (H.chunk_blk t _ _ _ _ 4000 (by norm_num) r s _ hx1)
  · refine (Block.mix1_at _ _ _ _ _ _ _ _ r s).trans ?_
    rw [Block.chunk1_at]
    exact H.mix_eq t s (y 1) (H.gate_blk t _ _ _ _ _ s) (chunk m c t 2000 _ r s (y 1) hx1)
      (H.chunk_blk t _ _ _ _ 2000 (by norm_num) r s _ hx1)
  · replace hx1 : (y 1).val = 0 + r.val := hx1.trans (Nat.zero_add _).symm
    refine (Block.mix0_at _ _ _ _ _ _ _ _ _ r s).trans ?_
    rw [Block.chunk0_at]
    exact H.mix_eq t s (y 1) (H.gate_blk t _ _ _ _ _ s) (chunk m c t 0 _ r s (y 1) hx1)
      (H.chunk_blk t _ _ _ _ 0 (by norm_num) r s _ hx1)

/-- The third output's block: the gate. -/
theorem gate_point (t : Fin cfg0.N) (y : S1x1x128.Idx) :
    (outsAt0 m c t).2.2 y = refGate m c (ix3 (batch t) (y 2) 0) := by
  unfold outsAt0
  frame_out
  have h0 : @Eq (Fin 1) (y 0) 0 := Fin.ext (Nat.lt_one_iff.mp (y 0).isLt)
  have h1 : @Eq (Fin 1) (y 1) 0 := Fin.ext (Nat.lt_one_iff.mp (y 1).isLt)
  have hy : y = ix3 (0 : Fin 1) (0 : Fin 1) (y 2) :=
    (eq_ix3 y).trans (congrArg₂ (fun a b : Fin 1 => ix3 a b (y 2)) h0 h1)
  generalize (y 2 : Fin 128) = s at hy
  subst hy
  exact (Block.pg_at _ s).trans ((H.gate_blk t _ _ _ _ _ s).trans (H.gate_ref (batch t) s).symm)

/-! ## The arrays -/

theorem array9 : (dats m 0 c).arrAt 9 (cfgs 0).N = fun i => refFinal m c (ix3 (i 0) (i 2) (i 1)) := by
  refine (dats m 0 c).arrAt_eq_of_covers 9 _ (by decide +kernel) fun t _ y => ?_
  blk_simp
  rw [after0_9]
  refine (H.final_point t y).trans ?_
  unfold batch
  blk_ext [idx t]

theorem array10 : (dats m 0 c).arrAt 10 (cfgs 0).N = fun i => refPtr m c (ix3 (i 0) (i 2) (i 1)) := by
  refine (dats m 0 c).arrAt_eq_of_covers 10 _ (by decide +kernel) fun t _ y => ?_
  blk_simp
  rw [after0_10]
  refine (H.ptr_point t y).trans ?_
  unfold batch
  blk_ext [idx t]

theorem array11 : (dats m 0 c).arrAt 11 (cfgs 0).N = fun i => refGate m c (ix3 (i 0) (i 2) 0) := by
  refine (dats m 0 c).arrAt_eq_of_covers 11 _ (by decide +kernel) fun t _ y => ?_
  blk_simp
  rw [after0_11]
  refine (H.gate_point t y).trans ?_
  unfold batch
  blk_ext [idx t]

end Good

end Cert.KernelIdeal.Arrays
-- ==== Proof.Pre.lean ====
module

public import proofs.«01_k».proof.Defs
public import proofs.«01_k».proof.Proof.Arrays

/-! The precondition on the arguments, as token rows and real entries. -/

@[expose] public section

set_option maxRecDepth 16384

noncomputable section

namespace Cert.Pre_inputs_ok

open Idealize.ShloMosaic

/-- The broadcasts of the precondition take a scalar to every shape. -/
theorem facts : Facts where
  bcast_S_S8x512 := by decide
  bcast_S_S8x512x512 := by decide
  bcast_S_S8x8x128x512 := by decide

end Cert.Pre_inputs_ok

namespace Cert.KernelIdeal.Arrays

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Where the precondition holds, the tokens are vocabulary rows and the encoder outputs, attention weights, scale and shift are real. -/
theorem good_of_pre (hp : Pre_KernelIdeal_inputs_ok (hPre_inputs_ok := Cert.Pre_inputs_ok.facts) m) :
    ∃ tok h sw sb, Good m c tok h sw sb := by
  obtain ⟨h0, h1, h2, h3, h4⟩ := hp c
  have ht : ∀ b i, (a0 m c (ix2 b i)).toNat < 10000 := fun b i => Words.range_check (congrFun h0 (ix2 b i))
  have he : ∀ b i x, ∃ r : ℝ, a3 m c (ix3 b i x) = ↑r := fun b i x => Words.finite_check (congrFun h1 (ix3 b i x))
  have ha : ∀ b k t i, ∃ r : ℝ, a5 m c (ix4 b k t i) = ↑r := fun b k t i => Words.finite_check (congrFun h2 (ix4 b k t i))
  obtain ⟨sw, hsw⟩ : ∃ r : ℝ, a8 m c ix0 = ↑r := Words.finite_check (congrFun h3 ix0)
  obtain ⟨sb, hsb⟩ : ∃ r : ℝ, a9 m c ix0 = ↑r := Words.finite_check (congrFun h4 ix0)
  choose h hh using ha
  exact ⟨fun b i => ⟨_, ht b i⟩, h, sw, sb, fun _ _ => rfl, he, hh, hsw, hsb⟩

/-- The final state's three results, as the lines after the kernel compute them from its arrays. -/
theorem tail9 : Pipeline.afterTail₀ cfgs (dats m) 0 (V0 m) [hostOps1] c main_v9
    = transpose S8x128x10000 [0, 2, 1] ((dats m 0 c).arrAt 9 (cfgs 0).N) transposes_S8x10000x128_S8x128x10000_0_2_1 := by
  show StableHlo.after hostOps1 _ (Proc.devRef .tc main_v9) = _
  after_results
  exact congrArg (fun x : FVec Ideal S8x10000x128 .f32 => transpose S8x128x10000 [0, 2, 1] x transposes_S8x10000x128_S8x128x10000_0_2_1)
    (Pipeline.withArrays_arr (cfgs 0).spec launch0.win.arr_inj c _ _ 9)

theorem tail10 : Pipeline.afterTail₀ cfgs (dats m) 0 (V0 m) [hostOps1] c main_v10
    = transpose S8x128x10000 [0, 2, 1] ((dats m 0 c).arrAt 10 (cfgs 0).N) transposes_S8x10000x128_S8x128x10000_0_2_1 := by
  show StableHlo.after hostOps1 _ (Proc.devRef .tc main_v10) = _
  after_results
  exact congrArg (fun x : FVec Ideal S8x10000x128 .f32 => transpose S8x128x10000 [0, 2, 1] x transposes_S8x10000x128_S8x128x10000_0_2_1)
    (Pipeline.withArrays_arr (cfgs 0).spec launch0.win.arr_inj c _ _ 10)

theorem tail11 : Pipeline.afterTail₀ cfgs (dats m) 0 (V0 m) [hostOps1] c main_v11
    = shapeCast S8x128 ((dats m 0 c).arrAt 11 (cfgs 0).N) shapeCasts_S8x1x128_S8x128 := by
  show StableHlo.after hostOps1 _ (Proc.devRef .tc main_v11) = _
  after_results
  exact congrArg (fun x : FVec Ideal S8x1x128 .f32 => shapeCast S8x128 x shapeCasts_S8x1x128_S8x128)
    (Pipeline.withArrays_arr (cfgs 0).spec launch0.win.arr_inj c _ _ 11)

variable {m c}
variable {tok : Fin 8 → Fin 512 → Fin 10000} {h : Fin 8 → Fin 8 → Fin 128 → Fin 512 → ℝ} {sw sb : ℝ}

/-- The transpose after the kernel, read at an index. -/
theorem turned_at (x : FVec Ideal S8x10000x128 .f32) (b : Fin 8) (s : Fin 128) (v : Fin 10000) :
    transpose S8x128x10000 [0, 2, 1] x transposes_S8x10000x128_S8x128x10000_0_2_1 (ix3 b s v) = x (ix3 b v s) := by
  pointwise

/-- The reshape of the gate row, read at an index. -/
theorem row_at (x : FVec Ideal S8x1x128 .f32) (b : Fin 8) (s : Fin 128) :
    shapeCast S8x128 x shapeCasts_S8x1x128_S8x128 (ix2 b s) = x (ix3 b 0 s) := by
  pointwise

theorem Good.result9 (H : Good m c tok h sw sb) :
    transpose S8x128x10000 [0, 2, 1] ((dats m 0 c).arrAt 9 (cfgs 0).N) transposes_S8x10000x128_S8x128x10000_0_2_1 = refFinal m c := by
  rw [H.array9]
  funext j
  idx_vars j
  exact turned_at _ _ _ _

theorem Good.result10 (H : Good m c tok h sw sb) :
    transpose S8x128x10000 [0, 2, 1] ((dats m 0 c).arrAt 10 (cfgs 0).N) transposes_S8x10000x128_S8x128x10000_0_2_1 = refPtr m c := by
  rw [H.array10]
  funext j
  idx_vars j
  exact turned_at _ _ _ _

theorem Good.result11 (H : Good m c tok h sw sb) :
    shapeCast S8x128 ((dats m 0 c).arrAt 11 (cfgs 0).N) shapeCasts_S8x1x128_S8x128
      = Cert.ReferenceIdeal.Read.val_main_v29 (F := Ideal) (a1 m c) (a3 m c) (a4 m c) (a5 m c) (a6 m c) (a7 m c) := by
  rw [H.array11]
  funext j
  idx_vars j
  exact (row_at _ _ _).trans (Cert.ReferenceIdeal.At.gate_at _ _ _ _ _ _ _ _).symm

open Cert.ReferenceIdeal.Read in
/-- The kernel's run, with its three results at the reference's values and its arguments unchanged. -/
theorem run_values (m : (ℓ : Loc nD τ sig) → Buf (Elt Ideal) ℓ) (g : Dev nD → PrngReg)
    (hp : Pre_KernelIdeal_inputs_ok (hPre_inputs_ok := Cert.Pre_inputs_ok.facts) m) :
    θ_run (defs (F := Ideal)) (onTc (τ := τ) (main (F := Ideal))) ⟨m, fun _ => 0, g⟩ (fun r =>
      (∀ c : Dev nD, r.2.mem ((c.tc : Thread nD τ).loc main_v9) = refFinal m c
        ∧ r.2.mem ((c.tc : Thread nD τ).loc main_v10) = refPtr m c
        ∧ r.2.mem ((c.tc : Thread nD τ).loc main_v11)
          = val_main_v29 (F := Ideal) (a1 m c) (a3 m c) (a4 m c) (a5 m c) (a6 m c) (a7 m c))) := by
  refine θ_run_mono (run_main m g) fun r hr c => ?_
  obtain ⟨tok, h, sw, sb, H⟩ := good_of_pre m c hp
  exact ⟨((hr c).2 main_v9 (by decide)).trans ((tail9 m c).trans H.result9),
    ((hr c).2 main_v10 (by decide)).trans ((tail10 m c).trans H.result10),
    ((hr c).2 main_v11 (by decide)).trans ((tail11 m c).trans H.result11)⟩

end Cert.KernelIdeal.Arrays

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference ends with its arguments unchanged, and it declares no semaphore. -/
theorem referenceFrame : quiescent_ReferenceIdeal (hReferenceIdeal := Cert.ReferenceIdeal.Gen.facts) := by
  intro m g _
  exact θ_run_mono (Cert.ReferenceIdeal.Value.run m g) fun r h =>
    ⟨fun c => (h c).2.2.2, Idealize.ShloMosaic.sem_eq_zero_of_no_sems (by decide) r.2⟩

/-- The kernel and the reference end with equal results where the precondition holds. -/
theorem equalResults : algebraic_KernelIdeal_ReferenceIdeal_pre_inputs_ok (hKernelIdeal := Cert.KernelIdeal.Gen.facts)
    (hReferenceIdeal := Cert.ReferenceIdeal.Gen.facts) (hPre_inputs_ok := Cert.Pre_inputs_ok.facts) := by
  intro m g m' g' hpre hagree
  refine ⟨fun c => Cert.KernelIdeal.Arrays.refFinal m c, fun c => Cert.KernelIdeal.Arrays.refPtr m c,
    fun c => Cert.ReferenceIdeal.Read.val_main_v29 (F := Ideal) (Cert.KernelIdeal.Arrays.a1 m c) (Cert.KernelIdeal.Arrays.a3 m c)
      (Cert.KernelIdeal.Arrays.a4 m c) (Cert.KernelIdeal.Arrays.a5 m c) (Cert.KernelIdeal.Arrays.a6 m c) (Cert.KernelIdeal.Arrays.a7 m c), ?_, ?_⟩
  · refine θ_run_mono (θ_run_and (Cert.KernelIdeal.Arrays.run_values m g hpre) (Cert.KernelIdeal.Gen.unchanged m g)) fun r hr c => ?_
    exact ⟨(hr.1 c).1, (hr.1 c).2.1, (hr.1 c).2.2, hr.2 c⟩
  · refine θ_run_mono (Cert.ReferenceIdeal.Value.run m' g') fun r hr c => ?_
    obtain ⟨e0, e1, e2, e3, e4, e5, e6, e7, e8, e9⟩ := hagree c
    obtain ⟨h28, h21, h29, hargs⟩ := hr c
    refine ⟨?_, ?_, ?_, hargs⟩
    · rw [h28, Cert.ReferenceIdeal.Read.val_main_v28_eq, e0, e1, e2, e3, e4, e5, e6, e7, e8, e9]
    · rw [h21, Cert.ReferenceIdeal.Read.val_main_v21_eq, e0, e5, e8, e9]
    · rw [h29, Cert.ReferenceIdeal.Read.val_main_v29_eq, e1, e3, e4, e5, e6, e7]

theorem claim : Cert.Claim :=
  ⟨Cert.Kernel.Gen.facts, Cert.KernelIdeal.Gen.facts, Cert.ReferenceIdeal.Gen.facts, Cert.Pre_inputs_ok.facts,
    fun m g _ => Cert.Kernel.Gen.frame m g,
    fun m g _ => Cert.KernelIdeal.Gen.frame m g,
    fun m g _ => Cert.KernelIdeal.Gen.frame m g,
    referenceFrame,
    fun m g _ => referenceFrame m g trivial,
    trivial,
    equalResults⟩

end Cert.Proof

end
